-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x1024 : Shape := ⟨2, ![8192, 1024]⟩
abbrev S8192x128 : Shape := ⟨2, ![8192, 128]⟩
abbrev S16x128 : Shape := ⟨2, ![16, 128]⟩
abbrev S16 : Shape := ⟨1, ![16]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S8192x1024 .f32) (main_arg1 : FVec F S8192x128 .f32) (main_arg2 : FVec F S16x128 .f32) (main_arg3 : FVec F S16 .f32) : IVec S_ 1 :=
  let main_v0 : FVec F S8192x128 .f32 := Host.absf main_arg1
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S16x128 .f32 := Host.absf main_arg2
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S8192x1024 : Shape := ⟨2, ![8192, 1024]⟩
abbrev S8192x128 : Shape := ⟨2, ![8192, 128]⟩
abbrev S16x128 : Shape := ⟨2, ![16, 128]⟩
abbrev S16 : Shape := ⟨1, ![16]⟩
abbrev S1x16 : Shape := ⟨2, ![1, 16]⟩
abbrev S8x16 : Shape := ⟨2, ![8, 16]⟩
abbrev S8192x16 : Shape := ⟨2, ![8192, 16]⟩
abbrev S1024x128 : Shape := ⟨2, ![1024, 128]⟩
abbrev S1024x16 : Shape := ⟨2, ![1024, 16]⟩
abbrev S256x16 : Shape := ⟨2, ![256, 16]⟩
abbrev S_ : Shape := ⟨0, ![]⟩

abbrev nBuf : Table → Nat
  | .hbm => 8
  | .local .tc .vmem => 6
  | .local .scVector .vmem => 2
  | _ => 0

abbrev bufTy : (tb : Table) → Fin (nBuf tb) → BufTy
  | .hbm, ⟨0, _⟩ => ⟨S8192x1024, .f32⟩
  | .hbm, ⟨1, _⟩ => ⟨S8192x128, .f32⟩
  | .hbm, ⟨2, _⟩ => ⟨S16x128, .f32⟩
  | .hbm, ⟨3, _⟩ => ⟨S16, .f32⟩
  | .hbm, ⟨4, _⟩ => ⟨S1x16, .f32⟩
  | .hbm, ⟨5, _⟩ => ⟨S8x16, .f32⟩
  | .hbm, ⟨6, _⟩ => ⟨S8192x16, .f32⟩
  | .hbm, ⟨7, _⟩ => ⟨S8192x16, .f32⟩
  | .local .tc .vmem, ⟨0, _⟩ => ⟨S1024x128, .f32⟩
  | .local .tc .vmem, ⟨1, _⟩ => ⟨S1024x128, .f32⟩
  | .local .tc .vmem, ⟨2, _⟩ => ⟨S16x128, .f32⟩
  | .local .tc .vmem, ⟨3, _⟩ => ⟨S8x16, .f32⟩
  | .local .tc .vmem, ⟨4, _⟩ => ⟨S1024x16, .f32⟩
  | .local .tc .vmem, ⟨5, _⟩ => ⟨S1024x16, .f32⟩
  | .local .scVector .vmem, ⟨0, _⟩ => ⟨S256x16, .f32⟩
  | .local .scVector .vmem, ⟨1, _⟩ => ⟨S256x16, .f32⟩
  | _, _ => ⟨S8192x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v2_scv : Ref sig .scVector := ⟨.hbm, 6, rfl⟩
abbrev main_v3_scv : Ref sig .scVector := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_3_r0 : BitVec 32 := 0#32
  ![v2.toNat, 0]
@[reducible] def k1_t1_loop : Scf.Loop 32 :=
  let c0_i32_1 : BitVec 32 := 0#32
  let c16_i32 : BitVec 32 := 16#32
  let v6 : BitVec 32 := Scalar.addi c0_i32_1 c16_i32
  let c1_i32 : BitVec 32 := 1#32
  ⟨c0_i32_1, v6, c1_i32⟩

def k1_chk1 (v9 : IVec S16 32) (v10 : IVec S16 32) : Prop :=
  (∀ a x, ((![v9, v10] : Fin 2 → IVec S16 32) a x).toNat < S256x16.size a)
theorem k1_idx1_inb : ∀ (v9 : IVec S16 32) (v10 : IVec S16 32) (k1_hw1 : k1_chk1 v9 v10), ∀ a x, ((![v9, v10] : Fin 2 → IVec S16 32) a x).toNat < S256x16.size a := fun v9 v10 k1_hw1 => k1_hw1

def k1_chk2 (v9 : IVec S16 32) (v12 : IVec S16 32) : Prop :=
  (∀ a x, ((![v9, v12] : Fin 2 → IVec S16 32) a x).toNat < S256x16.size a)
theorem k1_idx2_inb : ∀ (v9 : IVec S16 32) (v12 : IVec S16 32) (k1_hw2 : k1_chk2 v9 v12), ∀ a x, ((![v9, v12] : Fin 2 → IVec S16 32) a x).toNat < S256x16.size a := fun v9 v12 k1_hw2 => k1_hw2

def k1_chk3 (v9 : IVec S16 32) (v14 : IVec S16 32) : Prop :=
  (∀ a x, ((![v9, v14] : Fin 2 → IVec S16 32) a x).toNat < S256x16.size a)
theorem k1_idx3_inb : ∀ (v9 : IVec S16 32) (v14 : IVec S16 32) (k1_hw3 : k1_chk3 v9 v14), ∀ a x, ((![v9, v14] : Fin 2 → IVec S16 32) a x).toNat < S256x16.size a := fun v9 v14 k1_hw3 => k1_hw3

def k1_chk4 (v9 : IVec S16 32) (v16 : IVec S16 32) : Prop :=
  (∀ a x, ((![v9, v16] : Fin 2 → IVec S16 32) a x).toNat < S256x16.size a)
theorem k1_idx4_inb : ∀ (v9 : IVec S16 32) (v16 : IVec S16 32) (k1_hw4 : k1_chk4 v9 v16), ∀ a x, ((![v9, v16] : Fin 2 → IVec S16 32) a x).toNat < S256x16.size a := fun v9 v16 k1_hw4 => k1_hw4

def k1_chk5 (v9 : IVec S16 32) (v18 : IVec S16 32) : Prop :=
  (∀ a x, ((![v9, v18] : Fin 2 → IVec S16 32) a x).toNat < S256x16.size a)
theorem k1_idx5_inb : ∀ (v9 : IVec S16 32) (v18 : IVec S16 32) (k1_hw5 : k1_chk5 v9 v18), ∀ a x, ((![v9, v18] : Fin 2 → IVec S16 32) a x).toNat < S256x16.size a := fun v9 v18 k1_hw5 => k1_hw5

def k1_chk6 (v9 : IVec S16 32) (v20 : IVec S16 32) : Prop :=
  (∀ a x, ((![v9, v20] : Fin 2 → IVec S16 32) a x).toNat < S256x16.size a)
theorem k1_idx6_inb : ∀ (v9 : IVec S16 32) (v20 : IVec S16 32) (k1_hw6 : k1_chk6 v9 v20), ∀ a x, ((![v9, v20] : Fin 2 → IVec S16 32) a x).toNat < S256x16.size a := fun v9 v20 k1_hw6 => k1_hw6

def k1_chk7 (v9 : IVec S16 32) (v22 : IVec S16 32) : Prop :=
  (∀ a x, ((![v9, v22] : Fin 2 → IVec S16 32) a x).toNat < S256x16.size a)
theorem k1_idx7_inb : ∀ (v9 : IVec S16 32) (v22 : IVec S16 32) (k1_hw7 : k1_chk7 v9 v22), ∀ a x, ((![v9, v22] : Fin 2 → IVec S16 32) a x).toNat < S256x16.size a := fun v9 v22 k1_hw7 => k1_hw7

def k1_chk8 (v9 : IVec S16 32) (v24 : IVec S16 32) : Prop :=
  (∀ a x, ((![v9, v24] : Fin 2 → IVec S16 32) a x).toNat < S256x16.size a)
theorem k1_idx8_inb : ∀ (v9 : IVec S16 32) (v24 : IVec S16 32) (k1_hw8 : k1_chk8 v9 v24), ∀ a x, ((![v9, v24] : Fin 2 → IVec S16 32) a x).toNat < S256x16.size a := fun v9 v24 k1_hw8 => k1_hw8

def k1_chk9 (v9 : IVec S16 32) (v26 : IVec S16 32) : Prop :=
  (∀ a x, ((![v9, v26] : Fin 2 → IVec S16 32) a x).toNat < S256x16.size a)
theorem k1_idx9_inb : ∀ (v9 : IVec S16 32) (v26 : IVec S16 32) (k1_hw9 : k1_chk9 v9 v26), ∀ a x, ((![v9, v26] : Fin 2 → IVec S16 32) a x).toNat < S256x16.size a := fun v9 v26 k1_hw9 => k1_hw9

def k1_chk10 (v9 : IVec S16 32) (v28 : IVec S16 32) : Prop :=
  (∀ a x, ((![v9, v28] : Fin 2 → IVec S16 32) a x).toNat < S256x16.size a)
theorem k1_idx10_inb : ∀ (v9 : IVec S16 32) (v28 : IVec S16 32) (k1_hw10 : k1_chk10 v9 v28), ∀ a x, ((![v9, v28] : Fin 2 → IVec S16 32) a x).toNat < S256x16.size a := fun v9 v28 k1_hw10 => k1_hw10

def k1_chk11 (v9 : IVec S16 32) (v30 : IVec S16 32) : Prop :=
  (∀ a x, ((![v9, v30] : Fin 2 → IVec S16 32) a x).toNat < S256x16.size a)
theorem k1_idx11_inb : ∀ (v9 : IVec S16 32) (v30 : IVec S16 32) (k1_hw11 : k1_chk11 v9 v30), ∀ a x, ((![v9, v30] : Fin 2 → IVec S16 32) a x).toNat < S256x16.size a := fun v9 v30 k1_hw11 => k1_hw11

def k1_chk12 (v9 : IVec S16 32) (v32 : IVec S16 32) : Prop :=
  (∀ a x, ((![v9, v32] : Fin 2 → IVec S16 32) a x).toNat < S256x16.size a)
theorem k1_idx12_inb : ∀ (v9 : IVec S16 32) (v32 : IVec S16 32) (k1_hw12 : k1_chk12 v9 v32), ∀ a x, ((![v9, v32] : Fin 2 → IVec S16 32) a x).toNat < S256x16.size a := fun v9 v32 k1_hw12 => k1_hw12

def k1_chk13 (v9 : IVec S16 32) (v34 : IVec S16 32) : Prop :=
  (∀ a x, ((![v9, v34] : Fin 2 → IVec S16 32) a x).toNat < S256x16.size a)
theorem k1_idx13_inb : ∀ (v9 : IVec S16 32) (v34 : IVec S16 32) (k1_hw13 : k1_chk13 v9 v34), ∀ a x, ((![v9, v34] : Fin 2 → IVec S16 32) a x).toNat < S256x16.size a := fun v9 v34 k1_hw13 => k1_hw13

def k1_chk14 (v9 : IVec S16 32) (v36 : IVec S16 32) : Prop :=
  (∀ a x, ((![v9, v36] : Fin 2 → IVec S16 32) a x).toNat < S256x16.size a)
theorem k1_idx14_inb : ∀ (v9 : IVec S16 32) (v36 : IVec S16 32) (k1_hw14 : k1_chk14 v9 v36), ∀ a x, ((![v9, v36] : Fin 2 → IVec S16 32) a x).toNat < S256x16.size a := fun v9 v36 k1_hw14 => k1_hw14

def k1_chk15 (v9 : IVec S16 32) (v38 : IVec S16 32) : Prop :=
  (∀ a x, ((![v9, v38] : Fin 2 → IVec S16 32) a x).toNat < S256x16.size a)
theorem k1_idx15_inb : ∀ (v9 : IVec S16 32) (v38 : IVec S16 32) (k1_hw15 : k1_chk15 v9 v38), ∀ a x, ((![v9, v38] : Fin 2 → IVec S16 32) a x).toNat < S256x16.size a := fun v9 v38 k1_hw15 => k1_hw15

def k1_chk16 (v9 : IVec S16 32) (v40 : IVec S16 32) : Prop :=
  (∀ a x, ((![v9, v40] : Fin 2 → IVec S16 32) a x).toNat < S256x16.size a)
theorem k1_idx16_inb : ∀ (v9 : IVec S16 32) (v40 : IVec S16 32) (k1_hw16 : k1_chk16 v9 v40), ∀ a x, ((![v9, v40] : Fin 2 → IVec S16 32) a x).toNat < S256x16.size a := fun v9 v40 k1_hw16 => k1_hw16
def k1_off2 (k1_t1 : Fin k1_t1_loop.trips) (c0_i32_77 : BitVec 32) : Fin 2 → Nat :=
  let c0_i32_1 : BitVec 32 := 0#32
  let c1_i32 : BitVec 32 := 1#32
  let arg6 : BitVec 32 := Scf.iv c0_i32_1 c1_i32 k1_t1
  let c16_i32_76 : BitVec 32 := 16#32
  let v275 : BitVec 32 := Scalar.muli arg6 c16_i32_76
  let v276 : BitVec 32 := Scalar.addi v275 c0_i32_77
  let v277 : Index := Scalar.indexCast v276
  let c0 : Index := 0#32
  ![v277.toNat, 0]

def k1_chk17 (v9 : IVec S16 32) (v105 : IVec S16 32) : Prop :=
  (∀ a x, ((![v9, v105] : Fin 2 → IVec S16 32) a x).toNat < S256x16.size a)
theorem k1_idx17_inb : ∀ (v9 : IVec S16 32) (v105 : IVec S16 32) (k1_hw17 : k1_chk17 v9 v105), ∀ a x, ((![v9, v105] : Fin 2 → IVec S16 32) a x).toNat < S256x16.size a := fun v9 v105 k1_hw17 => k1_hw17

def k1_chk18 (v9 : IVec S16 32) (v266 : IVec S16 32) : Prop :=
  (∀ a x, ((![v9, v266] : Fin 2 → IVec S16 32) a x).toNat < S256x16.size a)
theorem k1_idx18_inb : ∀ (v9 : IVec S16 32) (v266 : IVec S16 32) (k1_hw18 : k1_chk18 v9 v266), ∀ a x, ((![v9, v266] : Fin 2 → IVec S16 32) a x).toNat < S256x16.size a := fun v9 v266 k1_hw18 => k1_hw18
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x1024 : Shape := ⟨2, ![8192, 1024]⟩
abbrev S8192x128 : Shape := ⟨2, ![8192, 128]⟩
abbrev S16x128 : Shape := ⟨2, ![16, 128]⟩
abbrev S16 : Shape := ⟨1, ![16]⟩
abbrev S128x16 : Shape := ⟨2, ![128, 16]⟩
abbrev S8192x16 : Shape := ⟨2, ![8192, 16]⟩
abbrev S1x16 : Shape := ⟨2, ![1, 16]⟩
abbrev S_ : Shape := ⟨0, ![]⟩
abbrev S8192 : Shape := ⟨1, ![8192]⟩
abbrev S8192x1 : Shape := ⟨2, ![8192, 1]⟩
abbrev S8192x2 : Shape := ⟨2, ![8192, 2]⟩
abbrev S8192x2x1 : Shape := ⟨3, ![8192, 2, 1]⟩
abbrev S8192x2x2 : Shape := ⟨3, ![8192, 2, 2]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S16x128, .f32⟩
  | .hbm, ⟨3, _⟩ => ⟨S16, .f32⟩
  | .hbm, ⟨4, _⟩ => ⟨S128x16, .f32⟩
  | .hbm, ⟨5, _⟩ => ⟨S8192x16, .f32⟩
  | .hbm, ⟨6, _⟩ => ⟨S1x16, .f32⟩
  | .hbm, ⟨7, _⟩ => ⟨S8192x16, .f32⟩
  | .hbm, ⟨8, _⟩ => ⟨S8192x16, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x16, .f32⟩
  | .hbm, ⟨16, _⟩ => ⟨S8192x16, .f32⟩
  | .hbm, ⟨17, _⟩ => ⟨S8192x16, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x16, .f32⟩
  | .hbm, ⟨22, _⟩ => ⟨S8192x16, .f32⟩
  | .hbm, ⟨23, _⟩ => ⟨S8192x2, .f32⟩
  | .hbm, ⟨24, _⟩ => ⟨S8192x2, .i32⟩
  | .hbm, ⟨25, _⟩ => ⟨S8192, .i32⟩
  | .hbm, ⟨26, _⟩ => ⟨S8192x1, .i32⟩
  | .hbm, ⟨27, _⟩ => ⟨S_, .f32⟩
  | .hbm, ⟨28, _⟩ => ⟨S8192x16, .f32⟩
  | .hbm, ⟨29, _⟩ => ⟨S_, .i32⟩
  | .hbm, ⟨30, _⟩ => ⟨S8192x1, .i32⟩
  | .hbm, ⟨31, _⟩ => ⟨S8192x1, .i1⟩
  | .hbm, ⟨32, _⟩ => ⟨S_, .i32⟩
  | .hbm, ⟨33, _⟩ => ⟨S8192x1, .i32⟩
  | .hbm, ⟨34, _⟩ => ⟨S8192x1, .i32⟩
  | .hbm, ⟨35, _⟩ => ⟨S8192x1, .i32⟩
  | .hbm, ⟨36, _⟩ => ⟨S_, .i32⟩
  | .hbm, ⟨37, _⟩ => ⟨S8192x2, .i32⟩
  | .hbm, ⟨38, _⟩ => ⟨S8192x2, .i1⟩
  | .hbm, ⟨39, _⟩ => ⟨S_, .i32⟩
  | .hbm, ⟨40, _⟩ => ⟨S8192x2, .i32⟩
  | .hbm, ⟨41, _⟩ => ⟨S8192x2, .i32⟩
  | .hbm, ⟨42, _⟩ => ⟨S8192x2, .i32⟩
  | .hbm, ⟨43, _⟩ => ⟨S8192x2, .i32⟩
  | .hbm, ⟨44, _⟩ => ⟨S8192x2x1, .i32⟩
  | .hbm, ⟨45, _⟩ => ⟨S8192x2x1, .i32⟩
  | .hbm, ⟨46, _⟩ => ⟨S8192x2x2, .i32⟩
  | .hbm, ⟨47, _⟩ => ⟨S_, .f32⟩
  | .hbm, ⟨48, _⟩ => ⟨S8192x2, .f32⟩
  | .hbm, ⟨49, _⟩ => ⟨S8192x16, .f32⟩
  | .hbm, ⟨50, _⟩ => ⟨S8192x16, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x16, .f32⟩
  | .hbm, ⟨58, _⟩ => ⟨S8192x16, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_values : Ref sig .tc := ⟨.hbm, 23, rfl⟩
abbrev main_indices : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Proof.Router.lean ====
/-
  What the router does to one row of sixteen scores, over any float instance: the best score, the first place that holds
  it, the best of the others, the first other place that holds that, and the two weights. Beside it, what one scatter of
  sixteen lanes into sixteen consecutive rows leaves (`scatter_rows`). No program is mentioned here.
-/
module

public import Idealize.ShloMosaic.PureOps

@[expose] public section

noncomputable section

namespace Cert.Router

open Idealize.ShloMosaic

variable {F : FTy → Type} [FloatOps F]

/-! ## One row -/

/-- The value that is below every score: minus infinity. -/
def low : F .f32 := Scalar.ofBits .f32 0xFF800000#32

/-- The number one. -/
def one : F .f32 := Scalar.ofBits .f32 0x3F800000#32

/-- The number zero. -/
def zero : F .f32 := Scalar.ofBits .f32 0x00000000#32

/-- The largest of the sixteen scores, taken from the left. -/
def best (c : Fin 16 → F .f32) : F .f32 := (List.finRange 15).foldl (fun a e => FloatOps.maximumf a (c e.succ)) (c 0)

/-- The number of the first place where `hit` holds, zero if it holds nowhere. -/
def firstHit (hit : Fin 16 → BitVec 1) : BitVec 32 :=
  (List.finRange 16).foldr (fun e a => Scalar.select (hit e) (BitVec.ofNat 32 e.val) a) 0#32

/-- The first place that holds the largest score. -/
def fst (c : Fin 16 → F .f32) : BitVec 32 := firstHit fun e => FloatOps.cmpf .oeq (c e) (best c)

/-- The largest score at a place other than `i`. -/
def nextBest (c : Fin 16 → F .f32) (i : BitVec 32) : F .f32 :=
  (List.finRange 16).foldl (fun a e => FloatOps.maximumf a (Scalar.select (IntOp.cmpi .eq i (BitVec.ofNat 32 e.val)) low (c e))) low

/-- The largest score but the first. -/
def second (c : Fin 16 → F .f32) : F .f32 := nextBest c (fst c)

/-- The first place other than the best one that holds the second largest score. -/
def snd (c : Fin 16 → F .f32) : BitVec 32 :=
  firstHit fun e => IntOp.andi (FloatOps.cmpf .oeq (c e) (second c)) (IntOp.cmpi .ne (fst c) (BitVec.ofNat 32 e.val))

/-- The weight of the best place. -/
def weight (c : Fin 16 → F .f32) : F .f32 := FloatOps.divf one (FloatOps.addf one (FloatOps.exp (FloatOps.subf (second c) (best c))))

/-- The weight of the second place. -/
def weight' (c : Fin 16 → F .f32) : F .f32 := FloatOps.subf one (weight c)

/-- The routed row: the two weights at their places, zero elsewhere. -/
def gate (c : Fin 16 → F .f32) (e : Fin 16) : F .f32 :=
  if e.val = (snd c).toNat then weight' c else if e.val = (fst c).toNat then weight c else zero

/-- Every such number names a place. -/
theorem firstHit_lt (hit : Fin 16 → BitVec 1) : (firstHit hit).toNat < 16 := by
  unfold firstHit
  induction List.finRange 16 with
  | nil => simp
  | cons e l ih =>
    rw [List.foldr_cons]
    unfold Scalar.select
    split
    · rw [BitVec.toNat_ofNat]; have := e.isLt; omega
    · exact ih

theorem fst_lt (c : Fin 16 → F .f32) : (fst c).toNat < 16 := firstHit_lt _
theorem snd_lt (c : Fin 16 → F .f32) : (snd c).toNat < 16 := firstHit_lt _

/-! ## Sixteen lanes scattered into sixteen rows -/

abbrev Lanes : Shape := ⟨1, ![16]⟩
abbrev Tile : Shape := ⟨2, ![256, 16]⟩

/-- Lane `k`. -/
abbrev lane (k : Fin 16) : Lanes.Idx := Shape.ofLane (d := ![16]) k

omit [FloatOps F] in
theorem lane_zero (x : Lanes.Idx) : lane (x 0) = x := by
  funext a; obtain rfl := Fin.eq_zero a; rfl

variable {α : Type}

omit [FloatOps F] in
/-- A run of conditional writes leaves an element that none of them names as it was. -/
theorem foldl_keep {n : ℕ} {J : Type} (at_ : Fin n → J → Prop) [∀ k j, Decidable (at_ k j)] (v : Fin n → α) (j : J) :
    ∀ (l : List (Fin n)) (g : J → α), (∀ k ∈ l, ¬ at_ k j) →
      l.foldl (fun g k => fun j => if at_ k j then v k else g j) g j = g j
  | [], _, _ => rfl
  | k :: l, g, h => by
    rw [List.foldl_cons, foldl_keep at_ v j l _ fun k' hk' => h k' (List.mem_cons_of_mem _ hk'),
      if_neg (h k List.mem_cons_self)]

omit [FloatOps F] in
/-- An element that exactly one of them names holds what that one writes. -/
theorem foldl_hit {n : ℕ} {J : Type} (at_ : Fin n → J → Prop) [∀ k j, Decidable (at_ k j)] (v : Fin n → α) (j : J) (k₀ : Fin n)
    (h₀ : at_ k₀ j) (hu : ∀ k, at_ k j → k = k₀) :
    ∀ (l : List (Fin n)) (g : J → α), (k₀ ∈ l ∨ g j = v k₀) →
      l.foldl (fun g k => fun j => if at_ k j then v k else g j) g j = v k₀
  | [], g, h => h.resolve_left List.not_mem_nil
  | k :: l, g, h => by
    rw [List.foldl_cons]
    refine foldl_hit at_ v j k₀ h₀ hu l _ ?_
    by_cases hk : at_ k j
    · right; rw [if_pos hk, hu k hk]
    · rcases h with h | h
      · rcases List.mem_cons.mp h with rfl | h
        · exact absurd h₀ hk
        · exact .inl h
      · right; rw [if_neg hk, h]

/-- Lane `k` written at row `16 t + k`, column `cols k`: the sixteen rows hold the lanes' values at those columns, and
    everything else stays. -/
theorem scatter_rows (f : Vec F Tile .f32) (rows cols : IVec Lanes 32) (v : Vec F Lanes .f32)
    (h : ∀ a x, ((![rows, cols] : Fin 2 → IVec Lanes 32) a x).toNat < Tile.size a) (t : ℕ)
    (hr : ∀ k : Fin 16, (rows (lane k)).toNat = 16 * t + k.val) (j : Tile.Idx) :
    storeIdx f (![rows, cols] : Fin 2 → IVec Lanes 32) v (fun _ => 1#1) false h j
      = if hj : 16 * t ≤ (j 0).val ∧ (j 0).val < 16 * t + 16 then
          (if (j 1).val = (cols (lane ⟨(j 0).val - 16 * t, by omega⟩)).toNat then v (lane ⟨(j 0).val - 16 * t, by omega⟩) else f j)
        else f j := by
  have e : storeIdx f (![rows, cols] : Fin 2 → IVec Lanes 32) v (fun _ => 1#1) false h
      = (List.finRange 16).foldl (fun g (k : Fin 16) => fun j : Tile.Idx =>
          if (∀ a, (j a).val = ((![rows, cols] : Fin 2 → IVec Lanes 32) a (lane k)).toNat) then v (lane k) else g j) f := rfl
  rw [e]
  have hat : ∀ (k : Fin 16) (j : Tile.Idx), (∀ a, (j a).val = ((![rows, cols] : Fin 2 → IVec Lanes 32) a (lane k)).toNat)
      ↔ (j 0).val = 16 * t + k.val ∧ (j 1).val = (cols (lane k)).toNat := fun k j =>
    ⟨fun H => ⟨(H 0).trans (hr k), H 1⟩, fun H a => match a with
      | 0 => H.1.trans (hr k).symm
      | 1 => H.2⟩
  by_cases hj : 16 * t ≤ (j 0).val ∧ (j 0).val < 16 * t + 16
  · rw [dif_pos hj]
    by_cases hc : (j 1).val = (cols (lane ⟨(j 0).val - 16 * t, by omega⟩)).toNat
    · rw [if_pos hc]
      refine foldl_hit (fun (k : Fin 16) (j : Tile.Idx) => ∀ a, (j a).val = ((![rows, cols] : Fin 2 → IVec Lanes 32) a (lane k)).toNat)
        (fun k => v (lane k)) j ⟨(j 0).val - 16 * t, by omega⟩ ((hat _ _).mpr ⟨?_, hc⟩) (fun k hk => Fin.ext ?_) _ _
        (.inl (List.mem_finRange _))
      · show (j 0).val = 16 * t + ((j 0).val - 16 * t)
        omega
      · have := ((hat _ _).mp hk).1
        show k.val = (j 0).val - 16 * t
        omega
    · rw [if_neg hc]
      refine foldl_keep (fun (k : Fin 16) (j : Tile.Idx) => ∀ a, (j a).val = ((![rows, cols] : Fin 2 → IVec Lanes 32) a (lane k)).toNat)
        (fun k => v (lane k)) j _ _ fun k _ hk => hc ?_
      obtain ⟨h0, h1⟩ := (hat _ _).mp hk
      rw [h1]
      congr 3
      exact Fin.ext (show k.val = (j 0).val - 16 * t by omega)
  · rw [dif_neg hj]
    refine foldl_keep (fun (k : Fin 16) (j : Tile.Idx) => ∀ a, (j a).val = ((![rows, cols] : Fin 2 → IVec Lanes 32) a (lane k)).toNat)
      (fun k => v (lane k)) j _ _ fun k _ hk => hj ?_
    obtain ⟨h0, -⟩ := (hat _ _).mp hk
    have := k.isLt
    omega

end Cert.Router

end
-- ==== Proof.KernelIdeal.Setup.lean ====
/-
  The launch's set-up: the program as the launch theorem sees it, the ghost state (the handshakes' rounds, the staging
  cells' rounds, the copies' counters), the buffers the SparseCore call works on, and how its two operands fall into
  thirty-two blocks of 256 rows, one for each tile.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Router

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The handshakes' rounds; -/
abbrev UH : Type := URounds (GSem nD τ sig) ℕ
/-- the rounds of the TensorCore call's staging cells; -/
abbrev UP : Type := URounds (GSem nD τ sig) Unit
/-- and both beside the copies' counters. -/
abbrev UU : Type := UH × (UP × Counters)

local notation "𝕄" => MT nD τ sig (HIx 1) (Elt F) ℕ UU ℕ

abbrev EH : Emb UH (MT nD τ sig (HIx 1) (Elt F) ℕ UU ℕ) := embL

/-- Where the staging cells' rounds live. -/
def EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

/-! ## The call's operands and the tiles' buffers -/

local notation "zV" => (Memref.whole Cert.KernelIdeal.main_v2_scv : Memref Cert.KernelIdeal.sig Kind.scVector Space.hbm Cert.KernelIdeal.S8192x16 EltTy.f32)
local notation "oV" => (Memref.whole Cert.KernelIdeal.main_v3_scv : Memref Cert.KernelIdeal.sig Kind.scVector Space.hbm Cert.KernelIdeal.S8192x16 EltTy.f32)
local notation "xV" => (Memref.whole Cert.KernelIdeal.cc1_scratch0 : Memref Cert.KernelIdeal.sig Kind.scVector Space.vmem Cert.KernelIdeal.S256x16 EltTy.f32)
local notation "yV" => (Memref.whole Cert.KernelIdeal.cc1_scratch1 : Memref Cert.KernelIdeal.sig Kind.scVector Space.vmem Cert.KernelIdeal.S256x16 EltTy.f32)

/-- The logits the TensorCore leaves; -/
abbrev zLoc (d : Dev nD) : Loc nD τ sig := (SparseCore.T d).loc main_v2
/-- the result. -/
abbrev oLoc (d : Dev nD) : Loc nD τ sig := (SparseCore.T d).loc main_v3

/-- The SparseCore and the tile of a grid point. -/
abbrev cV (L : grid1.Coords) : Fin τ.nSC := (L 0).castLE hcore1
abbrev jV (L : grid1.Coords) : Fin τ.nSub := (L 1).castLE hsub1

/-- The block of a tile: the two SparseCores take alternate blocks. -/
def blk (c : Fin 2) (s : Fin 16) : Fin 32 := ⟨2 * s.val + c.val, by omega⟩

theorem rdiv : 32 ∣ S8192x16.size 0 := ⟨256, rfl⟩
/-- Block `w` of the rows. -/
abbrev brow (w : Fin 32) : Rect S8192x16 := Rect.part (s := S8192x16) (a₀ := 0) rdiv w
abbrev bset (w : Fin 32) : Finset S8192x16.Idx := (brow w).set

/-- Block `w` of the logits, holding what `z` holds there; -/
abbrev zPts (d : Dev nD) (w : Fin 32) (z : Buf (Elt F) (zLoc d)) : sProp 𝕄 := zLoc d ↦[bset w]{fullShare} z
/-- block `w` of the result. -/
abbrev oPts (d : Dev nD) (w : Fin 32) (f : Buf (Elt F) (oLoc d)) : sProp 𝕄 := oLoc d ↦[bset w]{fullShare} f

/-! ## The blocks as the tiles' copies name them -/

/-- The rows a tile copies, as its program computes them. -/
abbrev krow (L : grid1.Coords) : Rect S8192x16 := Rect.unit (s := S8192x16) (k1_off1 L) S256x16.size (k1_off1_inb L)
abbrev zK (L : grid1.Coords) : Memref sig .scVector .hbm S256x16 .f32 := (zV).slice (krow L) (fun _ => rfl)
abbrev oK (L : grid1.Coords) : Memref sig .scVector .hbm S256x16 .f32 := (oV).slice (krow L) (fun _ => rfl)

theorem krow_eq (L : grid1.Coords) : krow L = brow (blk (L 0) (L 1)) := by
  unfold krow brow Rect.part Rect.block
  congr 1 <;> funext a
  · rw [Gen.k1_off1_eq]
    match a with
    | 0 => simp [blk, Shape.partIx, Shape.partSize]; omega
    | 1 => simp [blk, Shape.partIx, Shape.partSize]
  · match a with
    | 0 => simp [Shape.partSize]
    | 1 => simp [Shape.partSize]

theorem zK_set (L : grid1.Coords) : (zK L).view.set = bset (blk (L 0) (L 1)) := by
  show ((View.whole (main_v2_scv : Ref sig .scVector)).slice (krow L)).set = _
  rw [View.set_slice, krow_eq]; exact Finset.map_refl

theorem oK_set (L : grid1.Coords) : (oK L).view.set = bset (blk (L 0) (L 1)) := by
  show ((View.whole (main_v3_scv : Ref sig .scVector)).slice (krow L)).set = _
  rw [View.set_slice, krow_eq]; exact Finset.map_refl

theorem pts_zK (d : Dev nD) (L : grid1.Coords) (z : Buf (Elt F) (zLoc d)) :
    ((zK L).view.loc (V d (cV L) (jV L)) ↦[(zK L).view.set]{fullShare} z : sProp 𝕄) = zPts d (blk (L 0) (L 1)) z := by
  rw [zK_set]

theorem pts_oK (d : Dev nD) (L : grid1.Coords) (f : Buf (Elt F) (oLoc d)) :
    ((oK L).view.loc (V d (cV L) (jV L)) ↦[(oK L).view.set]{fullShare} f : sProp 𝕄) = oPts d (blk (L 0) (L 1)) f := by
  rw [oK_set]

end Cert.Proof.KernelIdeal
-- ==== Proof.KernelIdeal.Region.lean ====
/-
  The TensorCore's call: eight points, each leaving the logits of 1024 rows.
-/
module

public import proofs.«01_k».proof.Proof.KernelIdeal.Setup
public import Idealize.ShloMosaic.Lib.Pipeline.FrameBody
public import Idealize.ShloMosaic.Lib.Pipeline.Value

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "zV" => (Memref.whole Cert.KernelIdeal.main_v2_scv : Memref Cert.KernelIdeal.sig Kind.scVector Space.hbm Cert.KernelIdeal.S8192x16 EltTy.f32)
local notation "oV" => (Memref.whole Cert.KernelIdeal.main_v3_scv : Memref Cert.KernelIdeal.sig Kind.scVector Space.hbm Cert.KernelIdeal.S8192x16 EltTy.f32)
local notation "xV" => (Memref.whole Cert.KernelIdeal.cc1_scratch0 : Memref Cert.KernelIdeal.sig Kind.scVector Space.vmem Cert.KernelIdeal.S256x16 EltTy.f32)
local notation "yV" => (Memref.whole Cert.KernelIdeal.cc1_scratch1 : Memref Cert.KernelIdeal.sig Kind.scVector Space.vmem Cert.KernelIdeal.S256x16 EltTy.f32)

open Idealize.ShloMosaic.TcCoe
open Idealize.ShloMosaic.Pipeline (Dat BodyObligation)

theorem hz : (![0, 0] : Fin 2 → Nat) = fun _ => 0 := funext fun a => by fin_cases a <;> rfl

/-- The rectangle at the origin of the whole shape holds every index. -/
theorem mem_whole {S : Shape} {off : Fin S.rank → Nat} (h : off = fun _ => 0) (inb : ∀ a, off a + S.size a ≤ S.size a) (y : S.Idx) :
    y ∈ (Rect.unit off S.size inb).set := by
  subst h
  rw [Rect.mem_set_unit]
  exact fun a => ⟨Nat.zero_le _, by rw [Nat.zero_add]; exact (y a).isLt⟩

/-- The bias row a point loads: the first of the eight. -/
abbrev biasRow (b : Vec F S8x16 .f32) : Vec F S1x16 .f32 := View.ld b (Rect.unit (s := S8x16) ![0, 0] S1x16.size inb_S8x16_S1x16_0_0)

/-- One point's program leaves the logits of its rows, and its operands as they were. -/
theorem point_body (c : Dev nD) (i : grid0.Coords) (a1 : Memref sig .tc .vmem S1024x128 .f32) (h1 : a1.IsWhole) (a2 : Memref sig .tc .vmem S16x128 .f32) (h2 : a2.IsWhole)
    (a3 : Memref sig .tc .vmem S8x16 .f32) (h3 : a3.IsWhole) (a4 : Memref sig .tc .vmem S1024x16 .f32) (h4 : a4.IsWhole)
    (u : Vec F S1024x128 .f32) (w : Vec F S16x128 .f32) (b : Vec F S8x16 .f32) (x : Vec F S1024x16 .f32) (Q : PUnit → sProp 𝕄) :
    (iprop(owns c a1 fullShare u ∗ owns c a2 fullShare w ∗ owns c a3 fullShare b ∗ owns c a4 fullShare x
      ∗ ((owns c a1 fullShare u ∗ owns c a2 fullShare w ∗ owns c a3 fullShare b ∗ owns c a4 fullShare (k0_pay1 u w (biasRow b))) -∗ Q ⟨⟩)) : sProp 𝕄)
      ⊢ wp frame (wpE (defs₀ (F := F)) 𝒱₀ (c : Thread nD τ) none) Set.univ (cc0_body (F := F) i a1 h1 a2 h2 a3 h3 a4 h4) Q := by
  rw [cc0_body_eq_skeleton]
  unfold cc0_body_skel
  unfold owns
  iintro ⟨⟨%f1, %e1, H1⟩, ⟨%f2, %e2, H2⟩, ⟨%f3, %e3, H3⟩, ⟨%f4, %e4, H4⟩, Hk⟩
  sl_exec
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  iexists _
  isplitr
  swap
  · iexact H4
  ipureintro
  subst e1 e2 e3
  refine (View.read_writes_eq_canon _ _ _ fun y => ⟨_, List.mem_singleton.mpr rfl, ?_⟩).trans ?_
  · exact mem_whole (S := S1024x16) hz inb_S1024x16_S1024x16_0_0 y
  · rw [View.canon_unit_zero hz]
    simp only [View.readAt_eq_ld, View.ld_unit_zero (S := S1024x128) hz, View.ld_unit_zero (S := S16x128) hz]

/-! ## The call's proof data -/

section
variable (B : (c : Dev nD) → (b : Ref sig .tc) → Buf (Elt F) ((c : Thread nD τ).loc b))

/-- The blocks of the three operands at a point, read off the contents their arrays have when the call starts. -/
abbrev uBlk (c : Dev nD) (t : Fin cfg0.N) : Vec F S1024x128 .f32 := ((cfg0.win 0).blk t).view.read (Elt F) (B c main_arg1)
abbrev wBlk (c : Dev nD) (t : Fin cfg0.N) : Vec F S16x128 .f32 := ((cfg0.win 1).blk t).view.read (Elt F) (B c main_arg2)
abbrev bBlk (c : Dev nD) (t : Fin cfg0.N) : Vec F S8x16 .f32 := ((cfg0.win 2).blk t).view.read (Elt F) (B c main_v1)

/-- What point `t` stores. -/
abbrev stored (c : Dev nD) (t : Fin cfg0.N) : Vec F S1024x16 .f32 := k0_pay1 (uBlk B c t) (wBlk B c t) (biasRow (bBlk B c t))

/-- The arrays at their contents on entry; after a point the blocks it read and the logits it stored; the core owes
    what it owes the SparseCores' start all the way through, and has recorded nothing above that. -/
def dats (_ : Fin 1) (c : Dev nD) : Dat τ (Elt F) (HIx 1) ℕ UU ℕ cfg0 c where
  A w := B c (Pipeline.arrRef spec0 w)
  after w t := match w with
    | ⟨0, _⟩ => uBlk B c t
    | ⟨1, _⟩ => wBlk B c t
    | ⟨2, _⟩ => bBlk B c t
    | ⟨3, _⟩ => stored B c t
  Φ _ := iprop(emp)
  q _ := fullShare
  owed _ := (K (F := F)).Otc c 0
  recorded _ := {p | (K (F := F)).lev (T c, p.1) p.2 ≤ 8 * SparseCore.Cfg.Blocks.fst 1 1 0}

theorem before_0 (c : Dev nD) (t : Fin cfg0.N) (d) : (dats B 0 c).before 0 t d = uBlk B c t :=
  (dats B 0 c).before_in_eq_fetched 0 rfl (fun _ => rfl) (fun _ _ _ => rfl) (fun _ => rfl) t d
theorem before_1 (c : Dev nD) (t : Fin cfg0.N) (d) : (dats B 0 c).before 1 t d = wBlk B c t :=
  (dats B 0 c).before_in_eq_fetched 1 rfl (fun _ => rfl) (fun _ _ _ => rfl) (fun _ => rfl) t d
theorem before_2 (c : Dev nD) (t : Fin cfg0.N) (d) : (dats B 0 c).before 2 t d = bBlk B c t :=
  (dats B 0 c).before_in_eq_fetched 2 rfl (fun _ => rfl) (fun _ _ _ => rfl) (fun _ => rfl) t d

/-- At every point the body takes the staged blocks to the stored logits. -/
theorem body_obligation (c : Dev nD) : BodyObligation (dats B 0 c) (defs₀ (F := F)) 𝒱₀ (none : HIx 1) Set.univ := fun t => by
  rw [bigSep_W0, bigSep_W0, show (dats B 0 c).Φ t.castSucc = BI.emp from rfl, show (dats B 0 c).Φ t.succ = BI.emp from rfl]
  iintro ⟨HΦ, HO, ⟨%d0, H0⟩, ⟨%d1, H1⟩, ⟨%d2, H2⟩, ⟨%d3, H3⟩⟩
  rw [before_0, before_1, before_2]
  iapply (point_body c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (uBlk B c t) (wBlk B c t) (bBlk B c t) _ _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iexact H0
  isplitl [H1]; · iexact H1
  isplitl [H2]; · iexact H2
  iexact H3
end

/-! ## What the call leaves -/

/-- Row `i` of the block of 1024 rows number `t`. -/
def uRow (t : ℕ) (ht : t < 8) (i : S1024x128.Idx) : S8192x128.Idx := fun a => match a with
  | ⟨0, _⟩ => ⟨1024 * t + (i 0).val, by have h : (i 0).val < 1024 := (i 0).isLt; show _ < 8192; omega⟩
  | ⟨1, _⟩ => ⟨(i 1).val, (i 1).isLt⟩

/-- A result index's place in its block. -/
def inBlk (j : S8192x16.Idx) : S1024x16.Idx := fun a => match a with
  | ⟨0, _⟩ => ⟨(j 0).val % 1024, Nat.mod_lt _ (by decide)⟩
  | ⟨1, _⟩ => ⟨(j 1).val, (j 1).isLt⟩

theorem blk_lt (j : S8192x16.Idx) : (j 0).val / 1024 < 8 := by have h : (j 0).val < 8192 := (j 0).isLt; omega

/-- The logits of all the rows, each computed with its block. -/
def logits (u : Vec F S8192x128 .f32) (w : Vec F S16x128 .f32) (b : Vec F S8x16 .f32) : Vec F S8192x16 .f32 :=
  fun j => k0_pay1 (fun i => u (uRow ((j 0).val / 1024) (blk_lt j) i)) w (biasRow b) (inBlk j)

theorem logits_at (u : Vec F S8192x128 .f32) (w : Vec F S16x128 .f32) (b : Vec F S8x16 .f32) (t : ℕ) (ht : t < 8) (i : S1024x16.Idx) (j : S8192x16.Idx)
    (h0 : (j 0).val = 1024 * t + (i 0).val) (h1 : (j 1).val = (i 1).val) :
    logits u w b j = k0_pay1 (fun i => u (uRow t ht i)) w (biasRow b) i := by
  have hi : (i 0).val < 1024 := (i 0).isLt
  have e : (j 0).val / 1024 = t := by omega
  have e' : inBlk j = i := by
    funext a
    match a with
    | ⟨0, _⟩ => exact Fin.ext (show (j 0).val % 1024 = (i 0).val by omega)
    | ⟨1, _⟩ => exact Fin.ext h1
  subst e
  unfold logits
  rw [e']

section
variable (B : (c : Dev nD) → (b : Ref sig .tc) → Buf (Elt F) ((c : Thread nD τ).loc b))

theorem index_0 (t : Fin cfg0.N) : win0_0.index t 0 = t.val ∧ win0_0.index t 1 = 0 := by
  rcases fin_N0 t with rfl | rfl | rfl | rfl | rfl | rfl | rfl | rfl <;> decide
theorem index_1 (t : Fin cfg0.N) : win0_1.index t 0 = 0 ∧ win0_1.index t 1 = 0 := by
  rcases fin_N0 t with rfl | rfl | rfl | rfl | rfl | rfl | rfl | rfl <;> decide
theorem index_2 (t : Fin cfg0.N) : win0_2.index t 0 = 0 ∧ win0_2.index t 1 = 0 := by
  rcases fin_N0 t with rfl | rfl | rfl | rfl | rfl | rfl | rfl | rfl <;> decide
theorem index_3 (t : Fin cfg0.N) : win0_3.index t 0 = t.val ∧ win0_3.index t 1 = 0 := by
  rcases fin_N0 t with rfl | rfl | rfl | rfl | rfl | rfl | rfl | rfl <;> decide

theorem pt_lt (t : Fin cfg0.N) : t.val < 8 := t.isLt.trans_eq N_0

theorem uBlk_eq (c : Dev nD) (t : Fin cfg0.N) : uBlk B c t = fun i => (B c main_arg1 : Vec F S8192x128 .f32) (uRow t.val (pt_lt t) i) := by
  funext i
  unfold uBlk
  rw [View.read_apply]
  show B c main_arg1 _ = B c main_arg1 _
  congr 1
  funext a
  apply Fin.ext
  have h := index_0 t
  match a with
  | ⟨0, _⟩ => show win0_0.index t 0 * 1024 + 1 * (i 0).val = 1024 * t.val + (i 0).val; rw [h.1]; omega
  | ⟨1, _⟩ => show win0_0.index t 1 * 128 + 1 * (i 1).val = (i 1).val; rw [h.2]; omega

theorem wBlk_eq (c : Dev nD) (t : Fin cfg0.N) : wBlk B c t = B c main_arg2 := by
  funext i
  unfold wBlk
  rw [View.read_apply]
  show B c main_arg2 _ = B c main_arg2 _
  congr 1
  funext a
  apply Fin.ext
  have h := index_1 t
  match a with
  | ⟨0, _⟩ => show win0_1.index t 0 * 16 + 1 * (i 0).val = (i 0).val; rw [h.1]; omega
  | ⟨1, _⟩ => show win0_1.index t 1 * 128 + 1 * (i 1).val = (i 1).val; rw [h.2]; omega

theorem bBlk_eq (c : Dev nD) (t : Fin cfg0.N) : bBlk B c t = B c main_v1 := by
  funext i
  unfold bBlk
  rw [View.read_apply]
  show B c main_v1 _ = B c main_v1 _
  congr 1
  funext a
  apply Fin.ext
  have h := index_2 t
  match a with
  | ⟨0, _⟩ => show win0_2.index t 0 * 8 + 1 * (i 0).val = (i 0).val; rw [h.1]; omega
  | ⟨1, _⟩ => show win0_2.index t 1 * 16 + 1 * (i 1).val = (i 1).val; rw [h.2]; omega

/-- Each point writes back its block of the logits. -/
theorem flushed_eq (c : Dev nD) (t : Fin cfg0.N) (_ : (cfg0.win 3).flush t = true) :
    (dats B 0 c).flushed 3 t = ((cfg0.win 3).blk t).view.read (Elt F) (logits (B c main_arg1) (B c main_arg2) (B c main_v1)) := by
  show (cfg0.win 3).cut (grid0.coords t) ((dats B 0 c).after 3 t) = _
  funext i
  rw [View.read_apply]
  show stored B c t i = _
  unfold stored
  rw [uBlk_eq, wBlk_eq, bBlk_eq]
  have h := index_3 t
  refine (logits_at _ _ _ t.val (pt_lt t) i _ ?_ ?_).symm
  · show win0_3.index t 0 * 1024 + 1 * (i 0).val = 1024 * t.val + (i 0).val; rw [h.1]; omega
  · show win0_3.index t 1 * 16 + 1 * (i 1).val = (i 1).val; rw [h.2]; omega

/-- The eight write-backs leave the logits of all the rows. -/
theorem final_logits (c : Dev nD) : (dats B 0 c).arrAt 3 cfg0.N = logits (B c main_arg1) (B c main_arg2) (B c main_v1) :=
  (dats B 0 c).arrAt_eq_of_cover 3 _ (flushed_eq B c) fun i => by
    have h0 : (i 0 : Nat) < 8192 := (i 0).isLt
    have h1 : (i 1 : Nat) < 16 := (i 1).isLt
    have hN : cfg0.N = 8 := N_0
    obtain ⟨t, ht⟩ : ∃ t : Fin cfg0.N, t.val = (i 0 : Nat) / 1024 := ⟨⟨(i 0 : Nat) / 1024, by rw [hN]; omega⟩, rfl⟩
    refine ⟨t, flush0_3 t, ?_⟩
    show i ∈ ((View.whole main_v2).slice (win0_3.rect t)).set
    rw [View.set_slice_whole, Rect.mem_set_unit]
    have h := index_3 t
    intro a
    match a with
    | ⟨0, _⟩ => show win0_3.index t 0 * 1024 ≤ (i 0 : Nat) ∧ (i 0 : Nat) < win0_3.index t 0 * 1024 + 1024; rw [h.1]; omega
    | ⟨1, _⟩ => show win0_3.index t 1 * 16 ≤ (i 1 : Nat) ∧ (i 1 : Nat) < win0_3.index t 1 * 16 + 16; rw [h.2]; omega

end
end Cert.Proof.KernelIdeal
-- ==== Proof.KernelIdeal.Lanes.lean ====
/-
  The values of one trip of the tile's loop: sixteen rows at once, a lane for each row. The gathered columns, and the
  equations that say what the trip's long chains of vector operations compute, lane by lane, in the words of the router.
-/
module

public import proofs.«01_k».proof.Proof.KernelIdeal.Setup

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "zV" => (Memref.whole Cert.KernelIdeal.main_v2_scv : Memref Cert.KernelIdeal.sig Kind.scVector Space.hbm Cert.KernelIdeal.S8192x16 EltTy.f32)
local notation "oV" => (Memref.whole Cert.KernelIdeal.main_v3_scv : Memref Cert.KernelIdeal.sig Kind.scVector Space.hbm Cert.KernelIdeal.S8192x16 EltTy.f32)
local notation "xV" => (Memref.whole Cert.KernelIdeal.cc1_scratch0 : Memref Cert.KernelIdeal.sig Kind.scVector Space.vmem Cert.KernelIdeal.S256x16 EltTy.f32)
local notation "yV" => (Memref.whole Cert.KernelIdeal.cc1_scratch1 : Memref Cert.KernelIdeal.sig Kind.scVector Space.vmem Cert.KernelIdeal.S256x16 EltTy.f32)

/-! ## The rows of a trip -/

/-- The lane numbers. -/
abbrev lanes : IVec S16 32 := iota .scVector S16 32 [0] iota_S16_d0_w32_scVector

/-- The row numbers trip `t` works on. -/
abbrev rows (t : Fin k1_t1_loop.trips) : IVec S16 32 := k1_pay3 lanes 0#32 1#32 t

theorem trips_lt (t : Fin k1_t1_loop.trips) : t.val < 16 := t.isLt

theorem rows_toNat (t : Fin k1_t1_loop.trips) (k : S16.Idx) : (rows t k).toNat = 16 * t.val + (k 0).val := by
  have ht := trips_lt t
  have hk : (k 0).val < 16 := (k 0).isLt
  have h : rows t k = (0#32 + BitVec.ofNat 32 t.val * 1#32) * 16#32 + BitVec.ofNat 32 (0 * 16 + (k 0).val) := rfl
  rw [h]
  simp only [BitVec.toNat_add, BitVec.toNat_mul, BitVec.toNat_ofNat]
  omega

/-- A gather or a scatter of a trip stays in its buffer when its columns are below sixteen. -/
theorem inb (t : Fin k1_t1_loop.trips) (v : IVec S16 32) (hv : ∀ k, (v k).toNat < 16) :
    ∀ a x, ((![rows t, v] : Fin 2 → IVec S16 32) a x).toNat < S256x16.size a := by
  intro a x
  have ht := trips_lt t
  have hk : (x 0).val < 16 := (x 0).isLt
  match a with
  | 0 =>
    show (rows t x).toNat < 256
    rw [rows_toNat]; omega
  | 1 => exact hv x

theorem col_lt (e : Fin 16) : ∀ k : S16.Idx, ((broadcast S16 (BitVec.ofNat 32 e.val) : IVec S16 32) k).toNat < 16 := by
  intro k
  show (BitVec.ofNat 32 e.val).toNat < 16
  rw [BitVec.toNat_ofNat]; omega

/-- Column `e` of the rows of trip `t`, a lane for each row. -/
def col (x : Vec F S256x16 .f32) (t : Fin k1_t1_loop.trips) (e : Fin 16) : Vec F S16 .f32 :=
  loadIdx x ![rows t, broadcast S16 (BitVec.ofNat 32 e.val)] (inb t _ (col_lt e))

/-- A lane of a column is the element of the lane's row. -/
theorem col_apply (x : Vec F S256x16 .f32) (t : Fin k1_t1_loop.trips) (e : Fin 16) (k : S16.Idx) (j : S256x16.Idx)
    (h0 : (j 0).val = 16 * t.val + (k 0).val) (h1 : j 1 = e) : col x t e k = x j := by
  show x (idxAt ![rows t, broadcast S16 (BitVec.ofNat 32 e.val)] (inb t _ (col_lt e)) k) = x j
  congr 1
  funext a
  apply Fin.ext
  match a with
  | 0 =>
    show (rows t k).toNat = _
    rw [rows_toNat, h0]
  | 1 =>
    show (BitVec.ofNat 32 e.val).toNat = (j 1).val
    rw [h1, BitVec.toNat_ofNat]
    exact Nat.mod_eq_of_lt (lt_trans e.isLt (by decide))

/-! ## The chains -/

/-- The sixteen columns as one function of the lane. -/
abbrev lrow (c : Fin 16 → Vec F S16 .f32) (k : S16.Idx) : Fin 16 → F .f32 := fun e => c e k

theorem best_eq (c : Fin 16 → Vec F S16 .f32) :
    k1_pay4 (c 0) (c 1) (c 2) (c 3) (c 4) (c 5) (c 6) (c 7) (c 8) (c 9) (c 10) (c 11) (c 12) (c 13) (c 14) (c 15)
      = fun k => Router.best (lrow c k) := rfl

theorem fst_eq (c : Fin 16 → Vec F S16 .f32) :
    k1_pay7 (c 0) (c 1) (c 2) (c 3) (c 4) (c 5) (c 6)
        (k1_pay4 (c 0) (c 1) (c 2) (c 3) (c 4) (c 5) (c 6) (c 7) (c 8) (c 9) (c 10) (c 11) (c 12) (c 13) (c 14) (c 15))
        (k1_pay5 (c 0) (c 1) (c 2) (c 3) (c 4) (c 5) (c 6) (c 7) (c 8) (c 9) (c 10) (c 11) (c 12) (c 13) (c 14) (c 15))
        (k1_pay6 (c 0) (c 1) (c 2) (c 3) (c 4) (c 5) (c 6) (c 7) (c 8) (c 9) (c 10) (c 11) (c 12) (c 13) (c 14) (c 15)) 7#32
      = fun k => Router.fst (lrow c k) := rfl

theorem second_eq (c : Fin 16 → Vec F S16 .f32) (i : IVec S16 32) :
    k1_pay10 k1_pay1 (c 6) (c 7) (c 8) (c 9) (c 10) (c 11) (c 12) (c 13) (c 14) (c 15) i
        (k1_pay8 k1_pay1 (c 0) (c 1) (c 2) (c 3) (c 4) i) (k1_pay9 k1_pay1 (c 5) i)
      = fun k => Router.nextBest (lrow c k) (i k) := rfl

theorem snd_eq (c : Fin 16 → Vec F S16 .f32) (i : IVec S16 32) (s : Vec F S16 .f32)
    (q : IVec S16 1) (hq : q = fun k => IntOp.andi (FloatOps.cmpf .oeq (c 15 k) (s k)) (IntOp.cmpi .ne (i k) 15#32)) :
    select (k1_pay18 (c 0) i s) k1_pay19
        (k1_pay17 (c 1) (c 2) (c 3) (c 4) (c 5) (c 6) i s
          (k1_pay14 (c 8) (c 9) (c 10) (c 11) (c 12) (c 13) (c 14) i s k1_pay11 q k1_pay13) (k1_pay15 (c 7) s) k1_pay16)
      = fun k => Router.firstHit fun e => IntOp.andi (FloatOps.cmpf .oeq (c e k) (s k)) (IntOp.cmpi .ne (i k) (BitVec.ofNat 32 e.val)) := by
  subst hq; rfl

end Cert.Proof.KernelIdeal
-- ==== Proof.KernelIdeal.Trip.lean ====
/-
  One trip of the tile's loop.
-/
module

public import proofs.«01_k».proof.Proof.KernelIdeal.Lanes

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "zV" => (Memref.whole Cert.KernelIdeal.main_v2_scv : Memref Cert.KernelIdeal.sig Kind.scVector Space.hbm Cert.KernelIdeal.S8192x16 EltTy.f32)
local notation "oV" => (Memref.whole Cert.KernelIdeal.main_v3_scv : Memref Cert.KernelIdeal.sig Kind.scVector Space.hbm Cert.KernelIdeal.S8192x16 EltTy.f32)
local notation "xV" => (Memref.whole Cert.KernelIdeal.cc1_scratch0 : Memref Cert.KernelIdeal.sig Kind.scVector Space.vmem Cert.KernelIdeal.S256x16 EltTy.f32)
local notation "yV" => (Memref.whole Cert.KernelIdeal.cc1_scratch1 : Memref Cert.KernelIdeal.sig Kind.scVector Space.vmem Cert.KernelIdeal.S256x16 EltTy.f32)

section
variable (d : Dev nD) (L : grid1.Coords)

/-- The tile's copy of its logits, whole, holding `x`; -/
abbrev xPts (x : Vec F S256x16 .f32) : sProp 𝕄 := (xV).view.loc (V d (cV L) (jV L)) ↦{fullShare} x
/-- the rows it will copy out. -/
abbrev yPts (f : Vec F S256x16 .f32) : sProp 𝕄 := (yV).view.loc (V d (cV L) (jV L)) ↦{fullShare} f

/-- A weakest precondition on a tile, before its loop's labels are lifted. -/
local notation "WP" => wp frame (wpE (defs₀ (F := F)) 𝒱₀ (V d (cV L) (jV L)) none) Set.univ

/-- A gather of column `e` at the rows of trip `t` yields that column. -/
theorem wp_gather {α : Type} {t : Fin k1_t1_loop.trips} {x : Vec F S256x16 .f32} (e : Fin 16) {w : BitVec 32}
    (hw : w = BitVec.ofNat 32 e.val)
    {h : ∀ a k, ((![rows t, broadcast S16 w] : Fin 2 → IVec S16 32) a k).toNat < S256x16.size a} {hl : (xV).view.Loads}
    {k : Vec F S16 .f32 → Prog (TpuEff nD τ sig (Elt F) Λ₀ (.scVector (cV L) (jV L))) α} {Q : α → sProp 𝕄} :
    xPts d L x ⊢ iprop((xPts d L x -∗ WP (k (col x t e)) Q) -∗ WP (SparseCore.vectorLoadIdx xV ![rows t, broadcast S16 w] h hl >>= k) Q) := by
  subst hw
  have e1 : loadIdx (((xV).access (.whole _)).read (Elt F) x) ![rows t, broadcast S16 (BitVec.ofNat 32 e.val)] h = col x t e := by
    rw [Memref.read_access_whole]; rfl
  rw [← e1]
  exact SparseCore.wp_vectorLoadIdx 𝒱₀ (V d (cV L) (jV L)) none Set.univ (base := xV) (S := Finset.univ) (q := fullShare) (Finset.subset_univ _)

/-- A finished program. -/
theorem wp_done {α : Type} {a : α} {Q : α → sProp 𝕄} :
    Q a ⊢ WP (pure a : Prog (TpuEff nD τ sig (Elt F) Λ₀ (.scVector (cV L) (jV L))) α) Q := by
  rw [wp_pure]; exact fupd_intro

/-- A check that holds is passed. -/
theorem wp_check {α : Type} {P : Prop} {dec : Decidable P} (hP : P)
    {k : PLift P → Prog (TpuEff nD τ sig (Elt F) Λ₀ (.scVector (cV L) (jV L))) α} {Q : α → sProp 𝕄} :
    WP (k ⟨hP⟩) Q ⊢ WP (Prog.lift (TpuEff.assume P dec) >>= k) Q := by
  show _ ⊢ WP (.op (.assume P dec) k) Q
  rw [wp_assume_of _ _ _ _ hP]

/-- The same with the check before it, which holds. -/
theorem wp_check_gather {α : Type} {t : Fin k1_t1_loop.trips} {x : Vec F S256x16 .f32} (e : Fin 16) {w : BitVec 32}
    (hw : w = BitVec.ofNat 32 e.val) {P : Prop} {dec : Decidable P} (hP : P)
    {h : PLift P → ∀ a k, ((![rows t, broadcast S16 w] : Fin 2 → IVec S16 32) a k).toNat < S256x16.size a} {hl : (xV).view.Loads}
    {k : PLift P → Vec F S16 .f32 → Prog (TpuEff nD τ sig (Elt F) Λ₀ (.scVector (cV L) (jV L))) α} {Q : α → sProp 𝕄} :
    xPts d L x ⊢ iprop((xPts d L x -∗ WP (k ⟨hP⟩ (col x t e)) Q)
      -∗ WP (Prog.lift (TpuEff.assume P dec) >>= fun p => SparseCore.vectorLoadIdx xV ![rows t, broadcast S16 w] (h p) hl >>= k p) Q) := by
  show _ ⊢ iprop(_ -∗ WP (.op (.assume P dec) fun p => SparseCore.vectorLoadIdx xV ![rows t, broadcast S16 w] (h p) hl >>= k p) Q)
  rw [wp_assume_of _ _ _ _ hP]
  exact wp_gather d L e hw

/-- `f` with the first `n` rows of trip `t` zeroed. -/
def zeroed (t : Fin k1_t1_loop.trips) (n : ℕ) (f : Vec F S256x16 .f32) : Vec F S256x16 .f32 :=
  fun j => if 16 * t.val ≤ (j 0).val ∧ (j 0).val < 16 * t.val + n then Router.zero else f j

theorem zeroed_zero (t : Fin k1_t1_loop.trips) (f : Vec F S256x16 .f32) : zeroed t 0 f = f := by
  funext j; unfold zeroed; rw [if_neg (by omega)]

/-- Storing zeros in the next row zeroes one row more. -/
theorem write_zeroed (t : Fin k1_t1_loop.trips) (n : Fin 16) (f : Vec F S256x16 .f32)
    (hb : ∀ a, k1_off2 t (BitVec.ofNat 32 n.val) a + S1x16.size a ≤ S256x16.size a) :
    ((yV).access (Rect.unit (s := S256x16) (k1_off2 t (BitVec.ofNat 32 n.val)) S1x16.size hb)).write (Elt F) (zeroed t n.val f)
      (fun _ => Router.zero) Finset.univ = zeroed t (n.val + 1) f := by
  have hset : ∀ j : S256x16.Idx, j ∈ (Rect.unit (s := S256x16) (k1_off2 t (BitVec.ofNat 32 n.val)) S1x16.size hb).set
      ↔ (j 0).val = 16 * t.val + n.val := by
    intro j
    rw [Rect.mem_set_unit]
    have h16 : (j 1).val < 16 := (j 1).isLt
    have e0 : k1_off2 t (BitVec.ofNat 32 n.val) 0 = 16 * t.val + n.val := by
      rw [Gen.k1_off2_eq]; rfl
    have e1 : k1_off2 t (BitVec.ofNat 32 n.val) 1 = 0 := rfl
    have s0 : S1x16.size 0 = 1 := rfl
    have s1 : S1x16.size 1 = 16 := rfl
    constructor
    · intro h
      have := h 0
      rw [e0, s0] at this
      omega
    · intro h a
      match a with
      | 0 => show k1_off2 t (BitVec.ofNat 32 n.val) 0 ≤ (j 0).val ∧ (j 0).val < k1_off2 t (BitVec.ofNat 32 n.val) 0 + S1x16.size 0; rw [e0, s0]; omega
      | 1 => show k1_off2 t (BitVec.ofNat 32 n.val) 1 ≤ (j 1).val ∧ (j 1).val < k1_off2 t (BitVec.ofNat 32 n.val) 1 + S1x16.size 1; rw [e1, s1]; omega
  funext j
  by_cases hj : j ∈ (Rect.unit (s := S256x16) (k1_off2 t (BitVec.ofNat 32 n.val)) S1x16.size hb).set
  · have h0 := (hset j).mp hj
    rw [← Rect.map_emb_univ] at hj
    obtain ⟨i, -, rfl⟩ := Finset.mem_map.mp hj
    refine (View.write_emb_of_mem (v := ((yV).access (Rect.unit (s := S256x16) (k1_off2 t (BitVec.ofNat 32 n.val)) S1x16.size hb))) _ _ (Finset.mem_univ i)).trans ?_
    have hp : 16 * t.val ≤ ((Rect.unit (s := S256x16) (k1_off2 t (BitVec.ofNat 32 n.val)) S1x16.size hb).emb i 0).val
        ∧ ((Rect.unit (s := S256x16) (k1_off2 t (BitVec.ofNat 32 n.val)) S1x16.size hb).emb i 0).val < 16 * t.val + (n.val + 1) :=
      ⟨(Nat.le_add_right _ n.val).trans (le_of_eq h0.symm), lt_of_eq_of_lt h0 (by omega)⟩
    exact (if_pos hp).symm
  · have h0 : ¬(j 0).val = 16 * t.val + n.val := fun h => hj ((hset j).mpr h)
    rw [View.write_of_not_mem]
    · unfold zeroed
      by_cases h : 16 * t.val ≤ (j 0).val ∧ (j 0).val < 16 * t.val + n.val
      · rw [if_pos h, if_pos (by omega)]
      · rw [if_neg h, if_neg (by omega)]
    · intro h
      refine hj ?_
      rwa [View.setOn_univ, View.set_slice_whole] at h

/-- A part of the program by its specification. -/
theorem wp_step {α β : Type} {p : Prog (TpuEff nD τ sig (Elt F) Λ₀ (.scVector (cV L) (jV L))) α} {P : sProp 𝕄} {R : α → sProp 𝕄}
    (h : P ⊢ WP p R) {k : α → Prog (TpuEff nD τ sig (Elt F) Λ₀ (.scVector (cV L) (jV L))) β} {Q : β → sProp 𝕄} :
    P ⊢ iprop((∀ a, R a -∗ WP (k a) Q) -∗ WP (p >>= k) Q) := by
  rw [wp_bind]
  exact h.trans (wp_wand frame _ _)

/-- The first part of the trip: the first thirteen columns. -/
abbrev part1 (t : Fin k1_t1_loop.trips) :=
  k1_part1 (F := F) L zV (Memref.isWhole_whole _) oV (Memref.isWhole_whole _) xV (Memref.isWhole_whole _) yV (Memref.isWhole_whole _) cc1_scoped0 cc1_scoped1
          lanes 0#32 1#32 t

theorem part1_spec (t : Fin k1_t1_loop.trips) (x : Vec F S256x16 .f32) :
    xPts d L x ⊢ WP (part1 L t)
      fun r => iprop(⌜r = ⟨Scf.iv 0#32 1#32 t, rows t, col x t 0, col x t 1, col x t 2, col x t 3, col x t 4, col x t 5, col x t 6,
        col x t 7, col x t 8, col x t 9, col x t 10, col x t 11, col x t 12, broadcast S16 13#32, show k1_chk14 _ _ from inb t _ (col_lt 13)⟩⌝ ∗ xPts d L x) := by
  unfold part1
  simp only [k1_part1_eq_skeleton]; unfold k1_part1_skel
  iintro Hx
  dsimp only
  iapply (wp_check_gather d L (t := t) (x := x) 0 rfl (inb t _ (col_lt 0))) $$ Hx; iintro Hx
  iapply (wp_check_gather d L (t := t) (x := x) 1 rfl (inb t _ (col_lt 1))) $$ Hx; iintro Hx
  iapply (wp_check_gather d L (t := t) (x := x) 2 rfl (inb t _ (col_lt 2))) $$ Hx; iintro Hx
  iapply (wp_check_gather d L (t := t) (x := x) 3 rfl (inb t _ (col_lt 3))) $$ Hx; iintro Hx
  iapply (wp_check_gather d L (t := t) (x := x) 4 rfl (inb t _ (col_lt 4))) $$ Hx; iintro Hx
  iapply (wp_check_gather d L (t := t) (x := x) 5 rfl (inb t _ (col_lt 5))) $$ Hx; iintro Hx
  iapply (wp_check_gather d L (t := t) (x := x) 6 rfl (inb t _ (col_lt 6))) $$ Hx; iintro Hx
  iapply (wp_check_gather d L (t := t) (x := x) 7 rfl (inb t _ (col_lt 7))) $$ Hx; iintro Hx
  iapply (wp_check_gather d L (t := t) (x := x) 8 rfl (inb t _ (col_lt 8))) $$ Hx; iintro Hx
  iapply (wp_check_gather d L (t := t) (x := x) 9 rfl (inb t _ (col_lt 9))) $$ Hx; iintro Hx
  iapply (wp_check_gather d L (t := t) (x := x) 10 rfl (inb t _ (col_lt 10))) $$ Hx; iintro Hx
  iapply (wp_check_gather d L (t := t) (x := x) 11 rfl (inb t _ (col_lt 11))) $$ Hx; iintro Hx
  iapply (wp_check_gather d L (t := t) (x := x) 12 rfl (inb t _ (col_lt 12))) $$ Hx; iintro Hx
  iapply (wp_check d L (inb t _ (col_lt 13)))
  iapply (wp_done d L)
  isplitr
  · ipureintro; rfl
  · iexact Hx

/-- The second part: the other three columns, and the best score of each row. -/
abbrev part2 (t : Fin k1_t1_loop.trips) (c : Fin 16 → Vec F S16 .f32) :=
  k1_part2 (F := F) L zV (Memref.isWhole_whole _) oV (Memref.isWhole_whole _) xV (Memref.isWhole_whole _) yV (Memref.isWhole_whole _) cc1_scoped0 cc1_scoped1
    (rows t) (c 0) (c 1) (c 2) (c 3) (c 4) (c 5) (c 6) (c 7) (c 8) (c 9) (c 10) (c 11) (c 12) (broadcast S16 13#32) (inb t _ (col_lt 13))

theorem part2_spec (t : Fin k1_t1_loop.trips) (x : Vec F S256x16 .f32) (c : Fin 16 → Vec F S16 .f32) (hc : c = col x t) :
    xPts d L x ⊢ WP (part2 L t c)
      fun r => iprop(⌜r = ⟨c 13, c 14, c 15,
        k1_pay4 (c 0) (c 1) (c 2) (c 3) (c 4) (c 5) (c 6) (c 7) (c 8) (c 9) (c 10) (c 11) (c 12) (c 13) (c 14) (c 15),
        k1_pay5 (c 0) (c 1) (c 2) (c 3) (c 4) (c 5) (c 6) (c 7) (c 8) (c 9) (c 10) (c 11) (c 12) (c 13) (c 14) (c 15),
        k1_pay6 (c 0) (c 1) (c 2) (c 3) (c 4) (c 5) (c 6) (c 7) (c 8) (c 9) (c 10) (c 11) (c 12) (c 13) (c 14) (c 15), 7#32⟩⌝ ∗ xPts d L x) := by
  subst hc
  unfold part2
  simp only [k1_part2_eq_skeleton]; unfold k1_part2_skel
  iintro Hx
  dsimp only
  iapply (wp_gather d L (t := t) (x := x) 13 rfl) $$ Hx; iintro Hx
  iapply (wp_check_gather d L (t := t) (x := x) 14 rfl (inb t _ (col_lt 14))) $$ Hx; iintro Hx
  iapply (wp_check_gather d L (t := t) (x := x) 15 rfl (inb t _ (col_lt 15))) $$ Hx; iintro Hx
  iapply (wp_done d L)
  isplitr
  · ipureintro; rfl
  · iexact Hx

/-- Reading a row before it is overwritten: whatever it holds is not used again. -/
theorem wp_skip {α : Type} {r : LoadRect S256x16} {hl : (yV).view.LoadsAt r} {f : Vec F S256x16 .f32}
    {k : Vec F r.shape .f32 → Prog (TpuEff nD τ sig (Elt F) Λ₀ (.scVector (cV L) (jV L))) α} {Q : α → sProp 𝕄} :
    yPts d L f ⊢ iprop((yPts d L f -∗ ∀ w, WP (k w) Q) -∗ WP (Prog.lift (TpuEff.load yV r hl) >>= k) Q) := by
  show _ ⊢ iprop(_ -∗ WP (.op (.load yV r hl) k) Q)
  iintro H Hk
  iapply (wp_load 𝒱₀ (V d (cV L) (jV L)) none Set.univ (m := yV) (S := Finset.univ) (Finset.subset_univ _)) $$ H
  iintro H
  ihave Hw := Hk $$ H
  iapply Hw

/-- Zeroing row `n` of the trip, the rows before it zeroed. -/
theorem wp_zero {α : Type} {t : Fin k1_t1_loop.trips} {f : Vec F S256x16 .f32} (n : Fin 16) {w : BitVec 32} {m : ℕ}
    (hw : w = BitVec.ofNat 32 n.val) (hm : m = n.val)
    {hb : ∀ a, k1_off2 t w a + S1x16.size a ≤ S256x16.size a} {pay : Vec F S1x16 .f32} (hp : pay = fun _ => Router.zero)
    {hx : ((yV).access (Rect.unit (s := S256x16) (k1_off2 t w) S1x16.size hb)).Stores Finset.univ} {hu}
    {k : PUnit → Prog (TpuEff nD τ sig (Elt F) Λ₀ (.scVector (cV L) (jV L))) α} {Q : α → sProp 𝕄} :
    yPts d L (zeroed t m f) ⊢ iprop((yPts d L (zeroed t (m + 1) f) -∗ WP (k ⟨⟩) Q)
      -∗ WP (Prog.lift (TpuEff.store yV (Rect.unit (s := S256x16) (k1_off2 t w) S1x16.size hb) pay Finset.univ hx hu) >>= k) Q) := by
  subst hw hm hp
  show _ ⊢ iprop(_ -∗ WP (.op (.store yV (Rect.unit (s := S256x16) (k1_off2 t (BitVec.ofNat 32 n.val)) S1x16.size hb) (fun _ => Router.zero) Finset.univ hx hu) k) Q)
  have h := wp_store (defs := defs₀ (F := F)) 𝒱₀ (V d (cV L) (jV L)) none Set.univ (m := yV) (r := Rect.unit (s := S256x16) (k1_off2 t (BitVec.ofNat 32 n.val)) S1x16.size hb)
    (w := fun _ => Router.zero) (Mk := Finset.univ) (hx := hx) (hm := hu) (k := k) (Q := Q) (Γ := PendingWaitsCtx.empty) (S := Finset.univ) (f := zeroed t n.val f) (Finset.subset_univ _)
  rw [write_zeroed t n f hb] at h
  exact h

/-- Scattering a lane's value at its row, column `v`. -/
theorem wp_scatter {α : Type} {t : Fin k1_t1_loop.trips} {f : Vec F S256x16 .f32} {v : IVec S16 32} {w : Vec F S16 .f32}
    {h : ∀ a k, ((![rows t, v] : Fin 2 → IVec S16 32) a k).toNat < S256x16.size a} {hs : ((yV).access (.whole _)).Stores Finset.univ}
    {k : PUnit → Prog (TpuEff nD τ sig (Elt F) Λ₀ (.scVector (cV L) (jV L))) α} {Q : α → sProp 𝕄} :
    yPts d L f ⊢ iprop((yPts d L (storeIdx f ![rows t, v] w (fun _ => 1#1) false h) -∗ WP (k ⟨⟩) Q)
      -∗ WP (SparseCore.vectorStoreIdx yV ![rows t, v] w (fun _ => 1#1) false h hs >>= k) Q) := by
  have hset : ((yV).access (.whole _)).set = Finset.univ := by
    show ((View.whole (cc1_scratch1 : Ref sig .scVector)).slice (Rect.whole _)).set = _
    rw [View.set_slice_whole, Rect.set_whole]
  have e := SparseCore.wp_vectorStoreIdx (defs := defs₀ (F := F)) 𝒱₀ (V d (cV L) (jV L)) none Set.univ (base := yV)
    (idxs := ![rows t, v]) (v := w) (mask := fun _ => 1#1) (add := false) (h := h) (hs := hs) (k := k) (Q := Q) (f := f)
  rw [hset, Memref.read_access_whole, Memref.write_access_whole_univ] at e
  exact e

/-- The third part: the places of the best scores, checked. -/
theorem part3_spec (t : Fin k1_t1_loop.trips) (a v₀ v₁ v₂ v₃ v₄ v₅ v₆ b : Vec F S16 .f32) (i : IVec S16 32) (q : IVec S16 1) (z : BitVec 32)
    (v : IVec S16 32) (e : k1_pay7 v₀ v₁ v₂ v₃ v₄ v₅ v₆ b i q z = v) (hv : ∀ k, (v k).toNat < 16) :
    (iprop(emp) : sProp 𝕄) ⊢ WP (k1_part3 (F := F) L zV (Memref.isWhole_whole _) oV (Memref.isWhole_whole _) xV (Memref.isWhole_whole _) yV (Memref.isWhole_whole _) cc1_scoped0 cc1_scoped1
        a (rows t) v₀ v₁ v₂ v₃ v₄ v₅ v₆ b i q z)
      fun r => iprop(⌜r = ⟨v, (show k1_chk17 _ _ from inb t _ hv), k1_pay8 a v₀ v₁ v₂ v₃ v₄ v, k1_pay9 a v₅ v⟩⌝) := by
  subst e
  simp only [k1_part3_eq_skeleton]; unfold k1_part3_skel
  iintro -
  dsimp only
  iapply (wp_check d L (inb t _ hv))
  iapply (wp_done d L)
  ipureintro; rfl

/-- The fourth part: the best of the other scores. -/
theorem part4_spec (a v₆ v₇ v₈ v₉ v₁₀ v₁₁ v₁₂ v₁₃ v₁₄ v₁₅ : Vec F S16 .f32) (v : IVec S16 32) (p q s : Vec F S16 .f32)
    (e : k1_pay10 a v₆ v₇ v₈ v₉ v₁₀ v₁₁ v₁₂ v₁₃ v₁₄ v₁₅ v p q = s) :
    (iprop(emp) : sProp 𝕄) ⊢ WP (k1_part4 (F := F) L zV (Memref.isWhole_whole _) oV (Memref.isWhole_whole _) xV (Memref.isWhole_whole _) yV (Memref.isWhole_whole _) cc1_scoped0 cc1_scoped1
        a v₆ v₇ v₈ v₉ v₁₀ v₁₁ v₁₂ v₁₃ v₁₄ v₁₅ v p q)
      fun r => iprop(⌜r = ⟨s, k1_pay11, fun k => IntOp.andi (FloatOps.cmpf .oeq (v₁₅ k) (s k)) (IntOp.cmpi .ne (v k) 15#32), k1_pay13⟩⌝) := by
  subst e
  simp only [k1_part4_eq_skeleton]; unfold k1_part4_skel
  iintro -
  iapply (wp_done d L)
  ipureintro; rfl

/-- The seventh part: the places of the second best scores checked, the weights computed, the first four rows zeroed. -/
theorem part7_spec (t : Fin k1_t1_loop.trips) (f : Vec F S256x16 .f32) (a : BitVec 32) (s₁ s₂ : Vec F S16 .f32) (i : IVec S16 32)
    (q : IVec S16 1) (l v : IVec S16 32) (e : select q l i = v) (hv : ∀ k, (v k).toNat < 16) :
    yPts d L (zeroed t 0 f) ⊢ WP (k1_part7 (F := F) L zV (Memref.isWhole_whole _) oV (Memref.isWhole_whole _) xV (Memref.isWhole_whole _) yV (Memref.isWhole_whole _) cc1_scoped0 cc1_scoped1
        k1_pay2 t a (rows t) s₁ s₂ i q l)
      fun r => iprop((∃ w, ⌜r = ⟨v, (show k1_chk18 _ _ from inb t _ hv), k1_pay20 s₁ s₂, k1_pay21 s₁ s₂, w⟩⌝) ∗ yPts d L (zeroed t 4 f)) := by
  subst e
  simp only [k1_part7_eq_skeleton]; unfold k1_part7_skel
  iintro Hy
  dsimp only
  iapply (wp_check d L (inb t _ hv))
  iapply (wp_skip d L) $$ Hy; iintro Hy %_
  iapply (wp_zero d L (t := t) (f := f) 0 (m := 0) rfl rfl rfl) $$ Hy; iintro Hy
  iapply (wp_skip d L) $$ Hy; iintro Hy %_
  iapply (wp_zero d L (t := t) (f := f) 1 (m := 1) rfl rfl rfl) $$ Hy; iintro Hy
  iapply (wp_skip d L) $$ Hy; iintro Hy %_
  iapply (wp_zero d L (t := t) (f := f) 2 (m := 2) rfl rfl rfl) $$ Hy; iintro Hy
  iapply (wp_skip d L) $$ Hy; iintro Hy %_
  iapply (wp_zero d L (t := t) (f := f) 3 (m := 3) rfl rfl rfl) $$ Hy; iintro Hy
  iapply (wp_skip d L) $$ Hy; iintro Hy %w
  iapply (wp_done d L)
  isplitr
  · iexists w; ipureintro; rfl
  · iexact Hy

/-- The eighth part: six more rows zeroed. -/
theorem part8_spec (t : Fin k1_t1_loop.trips) (f : Vec F S256x16 .f32) (a : BitVec 32) (w : Vec F S1x16 .f32) :
    yPts d L (zeroed t 4 f) ⊢ WP (k1_part8 (F := F) L zV (Memref.isWhole_whole _) oV (Memref.isWhole_whole _) xV (Memref.isWhole_whole _) yV (Memref.isWhole_whole _) cc1_scoped0 cc1_scoped1
        k1_pay2 t a w)
      fun _ => yPts d L (zeroed t 10 f) := by
  simp only [k1_part8_eq_skeleton]; unfold k1_part8_skel
  iintro Hy
  dsimp only
  iapply (wp_zero d L (t := t) (f := f) 4 (m := 4) rfl rfl rfl) $$ Hy; iintro Hy
  iapply (wp_skip d L) $$ Hy; iintro Hy %_
  iapply (wp_zero d L (t := t) (f := f) 5 (m := 5) rfl rfl rfl) $$ Hy; iintro Hy
  iapply (wp_skip d L) $$ Hy; iintro Hy %_
  iapply (wp_zero d L (t := t) (f := f) 6 (m := 6) rfl rfl rfl) $$ Hy; iintro Hy
  iapply (wp_skip d L) $$ Hy; iintro Hy %_
  iapply (wp_zero d L (t := t) (f := f) 7 (m := 7) rfl rfl rfl) $$ Hy; iintro Hy
  iapply (wp_skip d L) $$ Hy; iintro Hy %_
  iapply (wp_zero d L (t := t) (f := f) 8 (m := 8) rfl rfl rfl) $$ Hy; iintro Hy
  iapply (wp_skip d L) $$ Hy; iintro Hy %_
  iapply (wp_zero d L (t := t) (f := f) 9 (m := 9) rfl rfl rfl) $$ Hy; iintro Hy
  iapply (wp_skip d L) $$ Hy; iintro Hy %w
  iapply (wp_done d L)
  iexact Hy

/-- The scores of the row of element `j`. -/
def rowOf (x : Vec F S256x16 .f32) (j : S256x16.Idx) : Fin 16 → F .f32 := fun e => x (Function.update j 1 e)

/-- The first `16 t` rows are routed. -/
def Routed (x : Vec F S256x16 .f32) (t : ℕ) (f : Vec F S256x16 .f32) : Prop :=
  ∀ j, (j 0).val < 16 * t → f j = Router.gate (rowOf x j) (j 1)

/-- The places of the best scores of the trip's rows; -/
abbrev fsts (x : Vec F S256x16 .f32) (t : Fin k1_t1_loop.trips) : IVec S16 32 := fun k => Router.fst (lrow (col x t) k)
/-- of the second best. -/
abbrev snds (x : Vec F S256x16 .f32) (t : Fin k1_t1_loop.trips) : IVec S16 32 := fun k => Router.snd (lrow (col x t) k)

/-- Both scatters over the zeroed rows route the trip's rows. -/
theorem routed_succ (x f : Vec F S256x16 .f32) (t : Fin k1_t1_loop.trips) (hf : Routed x t.val f)
    (h₁ : ∀ a k, ((![rows t, fsts x t] : Fin 2 → IVec S16 32) a k).toNat < S256x16.size a)
    (h₂ : ∀ a k, ((![rows t, snds x t] : Fin 2 → IVec S16 32) a k).toNat < S256x16.size a) :
    Routed x (t.val + 1)
      (storeIdx (storeIdx (zeroed t 16 f) ![rows t, fsts x t] (fun k => Router.weight (lrow (col x t) k)) (fun _ => 1#1) false h₁)
        ![rows t, snds x t] (fun k => Router.weight' (lrow (col x t) k)) (fun _ => 1#1) false h₂) := by
  intro j hj
  have hr : ∀ k : Fin 16, (rows t (Router.lane k)).toNat = 16 * t.val + k.val := fun k => rows_toNat t (Router.lane k)
  rw [Router.scatter_rows _ _ _ _ h₂ t.val hr, Router.scatter_rows _ _ _ _ h₁ t.val hr]
  by_cases hin : 16 * t.val ≤ (j 0).val ∧ (j 0).val < 16 * t.val + 16
  · rw [dif_pos hin, dif_pos hin]
    have hrow : lrow (col x t) (Router.lane ⟨(j 0).val - 16 * t.val, by omega⟩) = rowOf x j := by
      funext e
      refine col_apply x t e _ _ ?_ (Function.update_self 1 e j)
      show (j 0).val = 16 * t.val + ((j 0).val - 16 * t.val)
      omega
    unfold fsts snds
    rw [hrow]
    unfold zeroed
    rw [if_pos hin]
    rfl
  · rw [dif_neg hin, dif_neg hin]
    unfold zeroed
    rw [if_neg hin]
    exact hf j (by omega)

/-- One trip: the tile's logits are read, sixteen more rows are routed. -/
theorem trip (t : Fin k1_t1_loop.trips) (x f : Vec F S256x16 .f32) (hf : Routed x t.val f) :
    iprop(xPts d L x ∗ yPts d L f)
     ⊢ WP (k1_t1_body (F := F) L zV (Memref.isWhole_whole _) oV (Memref.isWhole_whole _) xV (Memref.isWhole_whole _) yV (Memref.isWhole_whole _)
          cc1_scoped0 cc1_scoped1 lanes t ())
        fun _ => iprop(xPts d L x ∗ ∃ f', ⌜Routed x (t.val + 1) f'⌝ ∗ yPts d L f') := by
  unfold k1_t1_body
  simp only [k1_part9_eq_skeleton]; unfold k1_part9_skel
  dsimp only
  rw [wp_bind]
  iintro ⟨Hx, Hy⟩
  iapply (wp_step d L (part1_spec d L t x)) $$ Hx; iintro %r ⟨%hr, Hx⟩; subst hr
  dsimp only
  iapply (wp_step d L (part2_spec d L t x (col x t) rfl)) $$ Hx; iintro %r ⟨%hr, Hx⟩; subst hr
  dsimp only
  ihave He : iprop(emp : sProp 𝕄) $$ []; · iempintro
  iapply (wp_step d L (part3_spec d L t _ _ _ _ _ _ _ _ _ _ _ _ (fsts x t) (fst_eq (col x t)) fun k => Router.fst_lt _)) $$ He; iintro %r %hr; subst hr
  dsimp only
  ihave He : iprop(emp : sProp 𝕄) $$ []; · iempintro
  iapply (wp_step d L (part4_spec d L _ _ _ _ _ _ _ _ _ _ _ _ _ _ (fun k => Router.second (lrow (col x t) k)) (second_eq (col x t) (fsts x t)))) $$ He; iintro %r %hr; subst hr
  dsimp only
  simp only [k1_part5_eq_skeleton, k1_part6_eq_skeleton]; unfold k1_part5_skel k1_part6_skel
  simp only [pure_bind]
  ihave Hy' : yPts d L (zeroed t 0 f) $$ [Hy]; · rw [zeroed_zero]; iexact Hy
  iapply (wp_step d L (part7_spec d L t f _ _ _ _ _ _ (snds x t) (snd_eq (col x t) (fsts x t) (fun k => Router.second (lrow (col x t) k)) _ rfl) fun k => Router.snd_lt _)) $$ Hy'
  iintro %r ⟨⟨%w, %hr⟩, Hy⟩; subst hr
  dsimp only
  iapply (wp_step d L (part8_spec d L t f _ _)) $$ Hy
  iintro %w Hy
  iapply (wp_zero d L (t := t) (f := f) 10 (m := 10) rfl rfl rfl) $$ Hy; iintro Hy
  iapply (wp_skip d L) $$ Hy; iintro Hy %_
  iapply (wp_zero d L (t := t) (f := f) 11 (m := 11) rfl rfl rfl) $$ Hy; iintro Hy
  iapply (wp_skip d L) $$ Hy; iintro Hy %_
  iapply (wp_zero d L (t := t) (f := f) 12 (m := 12) rfl rfl rfl) $$ Hy; iintro Hy
  iapply (wp_skip d L) $$ Hy; iintro Hy %_
  iapply (wp_zero d L (t := t) (f := f) 13 (m := 13) rfl rfl rfl) $$ Hy; iintro Hy
  iapply (wp_skip d L) $$ Hy; iintro Hy %_
  iapply (wp_zero d L (t := t) (f := f) 14 (m := 14) rfl rfl rfl) $$ Hy; iintro Hy
  iapply (wp_skip d L) $$ Hy; iintro Hy %w
  iapply (wp_done d L)
  iapply (wp_zero d L (t := t) (f := f) 15 (m := 15) rfl rfl rfl) $$ Hy; iintro Hy
  iapply (wp_scatter d L) $$ Hy; iintro Hy
  iapply (wp_scatter d L) $$ Hy; iintro Hy
  iapply (wp_done d L)
  isplitl [Hx]; · iexact Hx
  iexists _
  isplitr
  swap; · iexact Hy
  ipureintro
  exact routed_succ x f t hf _ _

end

end Cert.Proof.KernelIdeal
-- ==== Proof.KernelIdeal.Tile.lean ====
/-
  A tile's program: its block of logits in, the sixteen trips, its block of the result out.
-/
module

public import proofs.«01_k».proof.Proof.KernelIdeal.Trip

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "zV" => (Memref.whole Cert.KernelIdeal.main_v2_scv : Memref Cert.KernelIdeal.sig Kind.scVector Space.hbm Cert.KernelIdeal.S8192x16 EltTy.f32)
local notation "oV" => (Memref.whole Cert.KernelIdeal.main_v3_scv : Memref Cert.KernelIdeal.sig Kind.scVector Space.hbm Cert.KernelIdeal.S8192x16 EltTy.f32)
local notation "xV" => (Memref.whole Cert.KernelIdeal.cc1_scratch0 : Memref Cert.KernelIdeal.sig Kind.scVector Space.vmem Cert.KernelIdeal.S256x16 EltTy.f32)
local notation "yV" => (Memref.whole Cert.KernelIdeal.cc1_scratch1 : Memref Cert.KernelIdeal.sig Kind.scVector Space.vmem Cert.KernelIdeal.S256x16 EltTy.f32)

/-- The routed rows of all the logits. -/
def routed (z : Vec F S8192x16 .f32) : Vec F S8192x16 .f32 :=
  fun j => Router.gate (fun e : Fin 16 => z (Function.update j 1 e)) (j 1)

section
variable (d : Dev nD) (L : grid1.Coords)

local notation "WP" => wp frame (wpE (defs₀ (F := F)) 𝒱₀ (V d (cV L) (jV L)) none) Set.univ

/-- The loop routes the tile's 256 rows. -/
theorem loop (x f : Vec F S256x16 .f32) {α : Type} {kk : Unit → Prog (TpuEff nD τ sig (Elt F) Λ₀ (.scVector (cV L) (jV L))) α} {Q : α → sProp 𝕄} :
    iprop(xPts d L x ∗ yPts d L f)
     ⊢ iprop((∀ a, (xPts d L x ∗ ∃ f', ⌜Routed x 16 f'⌝ ∗ yPts d L f') -∗ WP (kk a) Q)
        -∗ WP (Scf.Loop.for k1_t1_loop k1_t1_ok ⟨⟩ (k1_t1_body (F := F) L zV (Memref.isWhole_whole _) oV (Memref.isWhole_whole _) xV (Memref.isWhole_whole _) yV (Memref.isWhole_whole _)
          cc1_scoped0 cc1_scoped1 lanes) >>= kk) Q) := by
  have h := Scf.wp_for_bind frame (wpE (defs₀ (F := F)) 𝒱₀ (V d (cV L) (jV L)) none) Set.univ _ _ _ k1_t1_ok PUnit.unit
    (k1_t1_body (F := F) L zV (Memref.isWhole_whole _) oV (Memref.isWhole_whole _) xV (Memref.isWhole_whole _) yV (Memref.isWhole_whole _)
          cc1_scoped0 cc1_scoped1 lanes)
    (fun t _ => iprop(xPts d L x ∗ ∃ f', ⌜Routed x t f'⌝ ∗ yPts d L f'))
    (fun t _ => by
      iintro ⟨Hx, %f', %hf, Hy⟩
      iapply (trip d L t x f' hf)
      isplitl [Hx] <;> iassumption) (kk := kk) (Q := Q)
  have h0 : iprop(xPts d L x ∗ yPts d L f) ⊢ iprop(xPts d L x ∗ ∃ f', ⌜Routed x 0 f'⌝ ∗ yPts d L f') := by
    iintro ⟨Hx, Hy⟩
    isplitl [Hx]; · iexact Hx
    iexists f
    isplitr
    · ipureintro; intro j hj; omega
    · iexact Hy
  exact h0.trans h

abbrev cellA : GSem nD τ sig := (V d (cV L) (jV L), .dma cc1_scoped0.sem)
abbrev cellB : GSem nD τ sig := (V d (cV L) (jV L), .dma cc1_scoped1.sem)

omit [FloatOps F] in
/-- The two copies' cells are among the tile's own. -/
theorem ownSems0_V :
    (ownSems0 (V d (cV L) (jV L)) : sProp 𝕄)
      = iprop(semVal (cellA d L) 0 ∗ semVal (cellB d L) 0
          ∗ bigSep (((ownCells (V d (cV L) (jV L))).erase (cellA d L)).erase (cellB d L)) fun g => semVal g 0) := by
  unfold SparseCore.Cfg.ownSems0
  rw [SparseCore.bigSep_erase' ((mem_ownCells (g := cellA d L)).mpr ⟨rfl, by
      show (SemLoc.dma cc1_scoped0.sem : SemLoc sig).isScoped .scVector = true; decide⟩),
    SparseCore.bigSep_erase' (Finset.mem_erase.mpr ⟨by simp [cellA, cellB]; decide, (mem_ownCells (g := cellB d L)).mpr ⟨rfl, by
      show (SemLoc.dma cc1_scoped1.sem : SemLoc sig).isScoped .scVector = true; decide⟩⟩)]

omit [FloatOps F] in
/-- The two scratch buffers are among the tile's own. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- What a tile copies out is its block of the routed rows. -/
theorem out_block (z : Vec F S8192x16 .f32) (o : Buf (Elt F) (oLoc d)) (x f w : Vec F S256x16 .f32)
    (hx : x = (zK L).view.read (Elt F) z) (hf : Routed x 16 f) (hw : w = f) :
    ((oK L).view.loc (V d (cV L) (jV L)) ↦[(oK L).view.set]{fullShare} (oK L).view.writes (Elt F) o [⟨Rect.whole S256x16, w⟩] : sProp 𝕄)
      = oPts d (blk (L 0) (L 1)) (routed z) := by
  rw [← pts_oK]
  refine pointsTo_congr fun i hi => ?_
  obtain ⟨y, -, rfl⟩ := Finset.mem_map.mp hi
  rw [hw, ← View.write_univ_eq_writes_whole, View.writes_nil, View.write_emb_of_mem _ _ (Finset.mem_univ _)]
  refine (cast_eq _ _).trans ((hf y (by have : (y 0).val < 256 := (y 0).isLt; omega)).trans ?_)
  subst hx
  unfold routed rowOf
  have he : ∀ (v : S256x16.Idx), (zK L).view.read (Elt F) z v = z ((oK L).view.emb v) := fun v => (View.read_apply _ _).trans (cast_eq _ _)
  have hu : ∀ e : Fin 16, (oK L).view.emb (Function.update y 1 e) = Function.update ((oK L).view.emb y) 1 e := by
    intro e
    funext a
    match a with
    | 0 => rfl
    | 1 => exact Fin.ext (show 0 + 1 * e.val = e.val by omega)
  have h1 : (oK L).view.emb y 1 = y 1 := Fin.ext (show 0 + 1 * (y 1).val = (y 1).val by omega)
  rw [h1]
  congr 1
  funext e
  rw [he, hu]

set_option maxHeartbeats 4000000 in
/-- The tile's program: from its block of the logits and of the result, its block of the result holds the routed rows. -/
theorem tile_body (hF : (K (F := F)).Facts) (z : Vec F S8192x16 .f32) (o : Vec F S8192x16 .f32)
    (O : CellTallies nD τ sig (HIx 1)) (W : Waits sig (HIx 1)) (hO : ∀ g, O g none = 0) :
    iprop(levAts (K (F := F)).L (K (F := F)).lev ∗ emp
        ∗ (zPts d (blk (L 0) (L 1)) z ∗ oPts d (blk (L 0) (L 1)) o)
        ∗ scopedBufs (V d (cV L) (jV L)) ∗ scopedSems0 (V d (cV L) (jV L)) ∗ owes (V d (cV L) (jV L)) O W)
      ⊢ WP (cc1_k L zV (Memref.isWhole_whole _) oV (Memref.isWhole_whole _) xV (Memref.isWhole_whole _) yV (Memref.isWhole_whole _) cc1_scoped0 cc1_scoped1)
          fun _ => iprop((zPts d (blk (L 0) (L 1)) z ∗ oPts d (blk (L 0) (L 1)) (routed z))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel
  rw [(K (F := F)).scopedBufs_V hF d (cV L) (jV L), SparseCore.Cfg.scopedSems0_V (Val := Elt F) d (cV L) (jV L), ownSems0_V, ownBufs_V]
  iintro ⟨#Hlv, -, ⟨Hz, Ho⟩, ⟨⟨%fx, Hx⟩, ⟨%fy, Hy⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hz' := (Entails.of_eq (pts_zK (F := F) d L _).symm) $$ Hz
  ihave Ho' := (Entails.of_eq (pts_oK (F := F) d L _).symm) $$ Ho
  ihave Hx' : xPts d L fx $$ [Hx]; · iexact Hx
  ihave Hy' : yPts d L fy $$ [Hy]; · iexact Hy
  sl_exec
  generalize hxv : (View.write (Elt F) (xV).view fx (tile_body.sl.dma0 L z) Finset.univ : Vec F S256x16 .f32) = x
  have hx : x = (zK L).view.read (Elt F) z := by
    rw [← hxv]; exact View.write_whole_univ _ _ _
  iapply (loop d L x fy) $$ [Hx' Hy']
  · isplitl [Hx'] <;> iassumption
  iintro %a ⟨Hx, %f, %hf, Hy⟩
  sl_exec
  sl_step
  isplitl [Hz' Ho']
  · isplitl [Hz']; · iapply (Entails.of_eq (pts_zK (F := F) d L _)); iexact Hz'
    iapply (Entails.of_eq (out_block d L z o x f _ hx hf rfl)); iexact Ho'
  isplitl [Hx Hy Hbufs]
  · isplitl [Hx]; · iexists _; iexact Hx
    isplitl [Hy]; · iexists _; iexact Hy
    iexact Hbufs
  isplitl [HsemA HsemB Hsems]
  · isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end

end Cert.Proof.KernelIdeal
-- ==== Proof.KernelIdeal.Call.lean ====
/-
  The SparseCore call: what its handshakes carry, every tile's obligation, and its two operands dealt to the tiles.
-/
module

public import proofs.«01_k».proof.Proof.KernelIdeal.Tile

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "zV" => (Memref.whole Cert.KernelIdeal.main_v2_scv : Memref Cert.KernelIdeal.sig Kind.scVector Space.hbm Cert.KernelIdeal.S8192x16 EltTy.f32)
local notation "oV" => (Memref.whole Cert.KernelIdeal.main_v3_scv : Memref Cert.KernelIdeal.sig Kind.scVector Space.hbm Cert.KernelIdeal.S8192x16 EltTy.f32)
local notation "xV" => (Memref.whole Cert.KernelIdeal.cc1_scratch0 : Memref Cert.KernelIdeal.sig Kind.scVector Space.vmem Cert.KernelIdeal.S256x16 EltTy.f32)
local notation "yV" => (Memref.whole Cert.KernelIdeal.cc1_scratch1 : Memref Cert.KernelIdeal.sig Kind.scVector Space.vmem Cert.KernelIdeal.S256x16 EltTy.f32)

variable (z o : (d : Dev nD) → Vec F S8192x16 .f32)

theorem nCore_zero : (K (F := F)).nCore 0 = 2 := rfl

/-- A tile's block of the logits, and of the result at `f`. -/
abbrev pair (d : Dev nD) (w : Fin 32) (f : Vec F S8192x16 .f32) : sProp 𝕄 := iprop(zPts d w (z d) ∗ oPts d w f)
/-- A SparseCore's sixteen. -/
abbrev pairs (d : Dev nD) (c : Fin 2) (f : Vec F S8192x16 .f32) : sProp 𝕄 := bigSep Finset.univ fun i : Fin 16 => pair z d (blk c i) f

/-- The handshakes carry the blocks out with the result as it was, and back with the routed rows in it. -/
def P : (K (F := F)).Pay (nD := nD) (Val := Elt F) (Name := ℕ) (U := UU) where
  st := fun q d c => match q with | 0 => pairs z d (Fin.cast nCore_zero c) (o d)
  dn := fun q d c => match q with | 0 => pairs z d (Fin.cast nCore_zero c) (routed (z d))
  go := fun q d c i => match q with | 0 => pair z d (blk (Fin.cast nCore_zero c) (Fin.cast nSub_zero i)) (o d)
  td := fun q d c i => match q with | 0 => pair z d (blk (Fin.cast nCore_zero c) (Fin.cast nSub_zero i)) (routed (z d))
  x := fun _ _ => iprop(emp)

instance P_storable : (P z o).IsStorable where
  st q d c := match q with | 0 => (inferInstance : BI.Storable (upEmb : UEmb _ 𝕄) (pairs z d (Fin.cast nCore_zero c) (o d)))
  dn q d c := match q with | 0 => (inferInstance : BI.Storable (upEmb : UEmb _ 𝕄) (pairs z d (Fin.cast nCore_zero c) (routed (z d))))
  go q d c i := match q with | 0 => (inferInstance : BI.Storable (upEmb : UEmb _ 𝕄) (pair z d (blk (Fin.cast nCore_zero c) (Fin.cast nSub_zero i)) (o d)))
  td q d c i := match q with | 0 => (inferInstance : BI.Storable (upEmb : UEmb _ 𝕄) (pair z d (blk (Fin.cast nCore_zero c) (Fin.cast nSub_zero i)) (routed (z d))))

/-! ## A tile's obligation -/

/-- The grid point of a SparseCore and one of its tiles. -/
def point (c : Fin (grid1.bound 0)) (s : Fin (grid1.bound 1)) : grid1.Coords :=
  fun | 0 => c | 1 => s | ⟨_ + 2, h⟩ => absurd h (Nat.not_lt.2 (Nat.le_add_left _ _))

theorem vector_body (c : Fin τ.nSC) (s : Fin τ.nSub) :
    defs₀ (F := F) (.scVector c s) 1 ()
      = SparseCore.onTile hcore1 hsub1 (fun c s => cc1_k (point c s) zV (Memref.isWhole_whole _) oV (Memref.isWhole_whole _)
          xV (Memref.isWhole_whole _) yV (Memref.isWhole_whole _) cc1_scoped0 cc1_scoped1) ⟨⟩ c s := rfl

theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'
  isplitr
  · ipureintro
    exact fun p hp => (h p hp).imp_right Or.inl
  iexact HO

set_option maxRecDepth 16384 in
/-- Every tile keeps its part of the handshakes. -/
theorem tileObl (hF : (K (F := F)).Facts) : (K (F := F)).TileObl (D (F := F)) 𝒱 (P z o) v₀ 0 := by
  intro d c i O W hO _ _
  simp only [show (P z o).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [vector_body]; simp only [SparseCore.onTile, hci, and_self, ↓reduceDIte]
  exact (tile_body d (point ⟨_, hci.1⟩ ⟨_, hci.2⟩) hF (z d) (o d) O W hO).trans (wp_mono frame _ _ fun _ => weaken_waits)

/-! ## The operands, dealt and gathered -/

theorem over_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem over_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P z o) 0 := by
  intro d c
  show pairs z d (Fin.cast nCore_zero c) (o d) ⊢ |={Set.univ}=> iprop(
      (bigSep Finset.univ fun i : Fin ((K (F := F)).nSub 0) => pair z d (blk (Fin.cast nCore_zero c) (Fin.cast nSub_zero i)) (o d))
      ∗ ((bigSep Finset.univ fun i : Fin ((K (F := F)).nSub 0) => pair z d (blk (Fin.cast nCore_zero c) (Fin.cast nSub_zero i)) (routed (z d)))
          -∗ pairs z d (Fin.cast nCore_zero c) (routed (z d))))
  rw [over_tiles (F := F) (fun i => pair z d (blk (Fin.cast nCore_zero c) i) (o d)),
    over_tiles (F := F) (fun i => pair z d (blk (Fin.cast nCore_zero c) i) (routed (z d)))]
  iintro H
  imodintro
  isplitl [H]; · iexact H
  iintro H
  iexact H

/-- SparseCore and tile, one number: the block. -/
def blkEquiv : Fin 2 × Fin 16 ≃ Fin 32 where
  toFun p := blk p.1 p.2
  invFun w := (⟨w.val % 2, Nat.mod_lt _ (by decide)⟩, ⟨w.val / 2, by omega⟩)
  left_inv p := by
    obtain ⟨c, s⟩ := p
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

theorem blocks_disjoint : ∀ i ∈ (Finset.univ : Finset (Fin 32)), ∀ j ∈ (Finset.univ : Finset (Fin 32)), i ≠ j → Disjoint (bset i) (bset j) :=
  fun _ _ _ _ h => Rect.part_disjoint rdiv h

/-- A buffer of 8192 rows held whole is its thirty-two blocks held. -/
theorem z_blocks (d : Dev nD) (f : Vec F S8192x16 .f32) :
    (zLoc d ↦{fullShare} f : sProp 𝕄) = bigSep Finset.univ fun w : Fin 32 => zPts d w f := by
  rw [← pointsTo_biUnion Finset.univ (ℓ := zLoc d) bset blocks_disjoint, show Finset.univ.biUnion bset = Finset.univ from Rect.biUnion_part rdiv]
  try rfl
theorem o_blocks (d : Dev nD) (f : Vec F S8192x16 .f32) :
    (oLoc d ↦{fullShare} f : sProp 𝕄) = bigSep Finset.univ fun w : Fin 32 => oPts d w f := by
  rw [← pointsTo_biUnion Finset.univ (ℓ := oLoc d) bset blocks_disjoint, show Finset.univ.biUnion bset = Finset.univ from Rect.biUnion_part rdiv]
  try rfl

/-- The two operands held whole are every SparseCore's blocks of them. -/
theorem dealt (d : Dev nD) (f : Vec F S8192x16 .f32) :
    (iprop((zLoc d ↦{fullShare} z d) ∗ oLoc d ↦{fullShare} f) : sProp 𝕄)
      = bigSep Finset.univ fun c : Fin ((K (F := F)).nCore 0) => pairs z d (Fin.cast nCore_zero c) f := by
  rw [over_cores (F := F) (fun c => pairs z d c f), ← bigSep_univ_prod (fun p : Fin 2 × Fin 16 => pair z d (blk p.1 p.2) f),
    z_blocks, o_blocks, ← bigSep_sep']
  exact bigSep_univ_equiv blkEquiv (fun w => pair z d w f)

end Cert.Proof.KernelIdeal
-- ==== Proof.KernelIdeal.Launch.lean ====
/-
  The whole program: the two operations on the bias, the TensorCore's call, the SparseCores' call, and what a run leaves.
-/
module

public import proofs.«01_k».proof.Proof.KernelIdeal.Region
public import proofs.«01_k».proof.Proof.KernelIdeal.Call
public import Idealize.ShloMosaic.Lib.Pipeline.RegionArrays

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "zV" => (Memref.whole Cert.KernelIdeal.main_v2_scv : Memref Cert.KernelIdeal.sig Kind.scVector Space.hbm Cert.KernelIdeal.S8192x16 EltTy.f32)
local notation "oV" => (Memref.whole Cert.KernelIdeal.main_v3_scv : Memref Cert.KernelIdeal.sig Kind.scVector Space.hbm Cert.KernelIdeal.S8192x16 EltTy.f32)
local notation "xV" => (Memref.whole Cert.KernelIdeal.cc1_scratch0 : Memref Cert.KernelIdeal.sig Kind.scVector Space.vmem Cert.KernelIdeal.S256x16 EltTy.f32)
local notation "yV" => (Memref.whole Cert.KernelIdeal.cc1_scratch1 : Memref Cert.KernelIdeal.sig Kind.scVector Space.vmem Cert.KernelIdeal.S256x16 EltTy.f32)

open Idealize.ShloMosaic.TcCoe
open Idealize.ShloMosaic.Pipeline (Dat)

variable (m : (ℓ : Loc nD τ sig) → Buf (Elt F) ℓ) (ρ : Dev nD → PrngReg)

/-! ## The two operations before the calls -/

/-- The bias as a row, -/
abbrev asRow : HloOp τ sig (Elt F) := StableHlo.reshape main_arg3 main_v0 (rfl : (.f32 : EltTy) = .f32) shapeCasts_S16_S1x16
/-- and that row repeated. -/
abbrev asRows : HloOp τ sig (Elt F) :=
  StableHlo.unary main_v0 main_v1 (broadcastInDim S8x16 ![0, 1] bcast_S1x16_S8x16_0_1 : (⟨S1x16, .f32⟩ : BufTy).Contents (Elt F) → (⟨S8x16, .f32⟩ : BufTy).Contents (Elt F))

/-- The device's buffers at launch, -/
def atLaunch (d : Dev nD) : Valuation τ sig (Elt F) := fun b => m (d, b)
/-- and when the TensorCore's call starts. -/
def atCall (d : Dev nD) : Valuation τ sig (Elt F) := asRows.result (asRow.result (atLaunch m d))
/-- The same, by reference. -/
abbrev B (d : Dev nD) (b : Ref sig .tc) : Buf (Elt F) ((d : Thread nD τ).loc b) := atCall m d (Proc.devRef .tc b)

/-- The rows of the bias the call reads. -/
def biasRows (b : Vec F S16 .f32) : Vec F S8x16 .f32 := broadcastInDim S8x16 ![0, 1] bcast_S1x16_S8x16_0_1 (shapeCast S1x16 b shapeCasts_S16_S1x16)

/-- Neither operation writes the other buffers; -/
theorem B_other (d : Dev nD) (b : Ref sig .tc) (h0 : b ≠ main_v0) (h1 : b ≠ main_v1) : B m d b = m ((d : Thread nD τ).loc b) := by
  show atCall m d (Proc.devRef .tc b) = _
  unfold atCall
  rw [StableHlo.unary_result_ne _ _ _ _ _ _ h1, StableHlo.reshape_result_ne _ _ _ _ _ _ _ h0]
  rfl
/-- and they leave the bias, repeated, in the call's third operand. -/
theorem B_bias (d : Dev nD) : B m d main_v1 = biasRows (m ((d : Thread nD τ).loc main_arg3)) := by
  show atCall m d (Proc.devRef .tc main_v1) = _
  unfold atCall
  rw [StableHlo.unary_result, StableHlo.reshape_result]
  rfl

/-- What the TensorCore's call leaves for the SparseCores, -/
def z (d : Dev nD) : Vec F S8192x16 .f32 := logits (m ((d : Thread nD τ).loc main_arg1)) (m ((d : Thread nD τ).loc main_arg2)) (biasRows (m ((d : Thread nD τ).loc main_arg3)))
/-- and what the result's buffer holds at that time. -/
def o (d : Dev nD) : Vec F S8192x16 .f32 := m (oLoc d)

/-! ## The TensorCore's call -/

abbrev adm : (p : Fin 1) → (pcfgs (F := F) p).Adm := fun p => (cfgs p).toPCfg_adm

/-- What the core owes the SparseCores throughout the call, with waits recorded no higher than that allows. -/
abbrev debts (d : Dev nD) : sProp 𝕄 :=
  iprop(∃ W, ⌜(K (F := F)).WBelow (SparseCore.T d) W (8 * SparseCore.Cfg.Blocks.fst 1 1 0)⌝ ∗ owes (SparseCore.T d) ((K (F := F)).Otc d 0) W)

theorem debts_none (d : Dev nD) (g : GSem nD τ sig) : (K (F := F)).Otc d 0 g none = 0 := by
  by_contra h
  have := (K (F := F)).lev_of_Otc_pos (Nat.pos_of_ne_zero h)
  rw [SparseCore.Cfg.lev_none] at this
  omega

/-- The arguments the call leaves alone. -/
abbrev args (d : Dev nD) : sProp 𝕄 :=
  iprop((((d : Thread nD τ).loc main_arg0) ↦{fullShare} m ((d : Thread nD τ).loc main_arg0)) ∗ (((d : Thread nD τ).loc main_arg1) ↦{fullShare} m ((d : Thread nD τ).loc main_arg1))
    ∗ (((d : Thread nD τ).loc main_arg2) ↦{fullShare} m ((d : Thread nD τ).loc main_arg2)) ∗ (((d : Thread nD τ).loc main_arg3) ↦{fullShare} m ((d : Thread nD τ).loc main_arg3)))

/-- What the call's arrays come to when it ends. -/
theorem arrays_end (d : Dev nD) : (dats (B m) 0 d).arrays ((dats (B m) 0 d).arrAt · cfg0.N)
    ⊢ (iprop((((d : Thread nD τ).loc main_arg1) ↦{fullShare} m ((d : Thread nD τ).loc main_arg1)) ∗ (((d : Thread nD τ).loc main_arg2) ↦{fullShare} m ((d : Thread nD τ).loc main_arg2))
        ∗ zLoc d ↦{fullShare} z m d) : sProp 𝕄) := by
  rw [Pipeline.arrays_eq (Pipeline.pin (pcfgs (F := F)) adm) (dats (B m)) 0 d launch0.arr_whole ((dats (B m) 0 d).share_full fun _ => rfl)]
  refine (Entails.of_eq (bigSep_W0 _)).trans ?_
  beta_reduce
  rw [show (dats (B m) 0 d).arrAt 0 cfg0.N = m ((d : Thread nD τ).loc main_arg1) from ((dats (B m) 0 d).arrAt_in 0 rfl _).trans (B_other m d main_arg1 (by decide) (by decide)),
    show (dats (B m) 0 d).arrAt 1 cfg0.N = m ((d : Thread nD τ).loc main_arg2) from ((dats (B m) 0 d).arrAt_in 1 rfl _).trans (B_other m d main_arg2 (by decide) (by decide)),
    show (dats (B m) 0 d).arrAt 3 cfg0.N = z m d from (final_logits (B m) d).trans (by
      rw [B_other m d main_arg1 (by decide) (by decide), B_other m d main_arg2 (by decide) (by decide), B_bias]; rfl)]
  iintro ⟨H0, H1, -, H3⟩
  isplitl [H0]; · iexact H0
  isplitl [H1]; · iexact H1
  iexact H3

set_option backward.isDefEq.respectTransparency.types false in
/-- The call as a region of the program: from every buffer, to the arguments, the logits and the result's buffer. -/
def region : Pipeline.RegionSeg (pcfgs (F := F)) adm (dats (B m)) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation (B m) c).loose
  hwaits c := Pipeline.cellsWaits_intro (Pipeline.pin pcfgs adm) (dats (B m)) none 0 c fun w s t => (K (F := F)).mayWait_none _ (debts_none c)
  pre c := iprop(unscopedBufs c (B m c) ∗ debts c)
  post c := iprop((args m c ∗ (zLoc c ↦{fullShare} z m c) ∗ oLoc c ↦{fullShare} o m c) ∗ debts c)
  X _ := iprop(emp)
  Y _ := iprop(emp)
  Z c := iprop((((c : Thread nD τ).loc main_arg0) ↦{fullShare} m ((c : Thread nD τ).loc main_arg0)) ∗ (((c : Thread nD τ).loc main_arg3) ↦{fullShare} m ((c : Thread nD τ).loc main_arg3))
    ∗ oLoc c ↦{fullShare} o m c)
  hentry c := by
    have hsplit := (Pipeline.arrays_of_unscopedBufs (pcfgs (F := F)) adm (dats (B m)) launch0.win launch0.arr_whole c
      ((dats (B m) 0 c).share_full fun _ => rfl) (B m c) (fun w => by dsimp only [dats])).trans (sep_mono .rfl (Entails.of_eq (unscopedRest0_eq c (B m c))))
    rw [B_other m c main_arg0 (by decide) (by decide), B_other m c main_arg3 (by decide) (by decide), B_other m c main_v3 (by decide) (by decide)] at hsplit
    rw [Pipeline.prefHeld_of_none _ rfl]
    iintro ⟨⟨Hub, %W, %hW, HO⟩, -, -⟩
    ihave H := hsplit $$ Hub
    icases H with ⟨Ha, H0, H3, -, Ho⟩
    imodintro
    isplitl [Ha]; · iexact Ha
    isplitr; · iempintro
    isplitl [HO]
    · unfold Pipeline.Dat.owesAt Pipeline.owesWithin
      iexists W
      isplitr
      · ipureintro; exact fun p hp => Or.inl (hW p hp)
      iexact HO
    isplitr; · iempintro
    isplitl [H0]; · iexact H0
    isplitl [H3]; · iexact H3
    iexact Ho
  hin c := by
    rw [show (dats (B m) 0 c).Φ 0 = iprop(emp) from rfl]
    iintro -
    iempintro
  hout c := by
    rw [Pipeline.ownSems0_none, show Pipeline.scopedRest (Pipeline.pin (pcfgs (F := F)) adm 0).spec c = (BI.emp : sProp 𝕄) from scopedRest0_eq c]
    iintro -
    isplitr; · iempintro
    isplitr <;> iempintro
  hexit c := by
    iintro ⟨Ha, HO, -, H0, H3, Ho⟩
    ihave H := (arrays_end m c) $$ Ha
    icases H with ⟨H1, H2, Hz⟩
    imodintro
    isplitr [HO]
    · isplitl [H0 H1 H2 H3]
      · isplitl [H0]; · iexact H0
        isplitl [H1]; · iexact H1
        isplitl [H2]; · iexact H2
        iexact H3
      isplitl [Hz]; · iexact Hz
      iexact Ho
    · unfold Pipeline.Dat.owesAt Pipeline.owesWithin
      icases HO with ⟨%W, %hW, HO⟩
      iexists W
      isplitr
      · ipureintro
        intro p hp
        rcases hW hp with h | ⟨w, s, rfl⟩
        · exact h
        · rw [SparseCore.Cfg.lev_none]; exact Nat.zero_le _
      iexact HO

/-! ## The launch element of the ghost state -/

/-- The staging cells' ghost state on a core, dealt at launch. -/
abbrev G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

/-- The handshakes' rounds and the staging cells' rounds, at their start. -/
def u₀ : UU := (initOf (K (F := F)).hsCells (K (F := F)).hsToks, (initOf (Pipeline.cells (nD := nD) (τ := τ) cfgs cellOf_inj) (Pipeline.launchToks cfgs cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (z m) (o m)).x q thr) := by
  have hx : (bigSep Finset.univ fun thr : Thread nD τ => bigSep Finset.univ fun q : Fin 1 => (P (z m) (o m)).x q thr) = (iprop(emp) : sProp 𝕄) := by
    rw [show (bigSep Finset.univ fun thr : Thread nD τ => bigSep Finset.univ fun q : Fin 1 => (P (z m) (o m)).x q thr) = (bigSep Finset.univ fun _ : Thread nD τ => (iprop(emp) : sProp 𝕄)) from
      bigSep_congr fun _ _ => bigSep_univ_of_subsingleton (0 : Fin 1)]
    exact bigSep_emp_const _
  have hG : (BI.own (((Emb.inl : Emb UP (UP × Counters)).trans (embR : Emb (UP × Counters) 𝕄)) (initOf (Pipeline.cells (nD := nD) (τ := τ) cfgs cellOf_inj) (Pipeline.launchToks cfgs cellOf_inj))) : sProp 𝕄)
      ⊢ |==> (bigSep Finset.univ fun d : Dev nD => G (F := F) d) := by
    refine (Pipeline.fund_ghost cfgs (EP (F := F)) cellOf_inj).trans (bupd_mono ?_)
    rw [← bigSep_sep']
    refine Entails.of_eq (bigSep_congr fun d _ => ?_)
    rw [bigSep_univ_of_subsingleton (0 : Fin 1), bigSep_univ_of_subsingleton (0 : Fin 1)]
  rw [hx]
  unfold u₀
  iintro Hu
  ihave H := (ownU_pair (initOf (K (F := F)).hsCells (K (F := F)).hsToks)
    ((initOf (Pipeline.cells (nD := nD) (τ := τ) cfgs cellOf_inj) (Pipeline.launchToks cfgs cellOf_inj), 1) : UP × Counters)) $$ Hu
  icases H with ⟨HH, HR⟩
  ihave H := (own_pair_emb embR (initOf (Pipeline.cells (nD := nD) (τ := τ) cfgs cellOf_inj) (Pipeline.launchToks cfgs cellOf_inj)) (1 : Counters)) $$ HR
  icases H with ⟨HP, -⟩
  imod hG $$ HP with HG
  imodintro
  isplitl [HH]; · iexact HH
  isplitl [HG]; · iexact HG
  iempintro

/-! ## The program on the TensorCore -/

/-- What a run leaves on a device: the arguments as launched, the result the routed logits. -/
abbrev FIN (d : Dev nD) : sProp 𝕄 := iprop(args m d ∗ oLoc d ↦{fullShare} routed (z m d))

theorem unscopedBufs_at (d : Dev nD) (W : Valuation τ sig (Elt F)) :
    (unscopedBufs d (fun b => W (Proc.devRef .tc b)) : sProp 𝕄) = StableHlo.held (d : Thread nD τ) (Pipeline.ucRefs τ sig) W :=
  Pipeline.unscopedBufs_held d W

/-- The buffers as the launch hands them over. -/
theorem launch_held (d : Dev nD) :
    (unscopedBufs d (fun b => m ((SparseCore.T d).loc b)) : sProp 𝕄) = StableHlo.held (d : Thread nD τ) (Pipeline.ucRefs τ sig) (atLaunch m d) :=
  Pipeline.unscopedBufs_held d (atLaunch m d)

/-- The buffers as the call takes them over. -/
theorem call_held (d : Dev nD) :
    (StableHlo.held (SparseCore.T d) (Pipeline.ucRefs τ sig) (asRows.result (asRow.result (atLaunch m d))) : sProp 𝕄) ⊢ unscopedBufs d (B m d) :=
  Entails.of_eq (unscopedBufs_at d (atCall m d)).symm

theorem asRow_sub : (asRow (F := F)).bufs ⊆ Pipeline.ucRefs τ sig := Pipeline.sub_ucRefs _ (StableHlo.reshape_bufs_sub ..)
theorem asRows_sub : (asRows (F := F)).bufs ⊆ Pipeline.ucRefs τ sig := Pipeline.sub_ucRefs _ (StableHlo.unary_bufs_sub ..)

/-- The call as the pipeline's program spells it. -/
abbrev entryProg : Prog (TpuEff nD τ sig (Elt F) (ΛP (F := F)) .tc) PUnit := .op (.customCall (Pipeline.entry 0) ()) fun _ => .ret ⟨⟩

theorem call_lift : (Prog.lift (.customCall (SparseCore.inner (Pipeline.entry 0)) ()) : Prog (TpuEff nD τ sig (Elt F) (SparseCore.Sig (Pipeline.Sig Λ₀ (Fin 1) fun p => (pcfgs (F := F) p).Adm) 1) .tc) PUnit)
    = SparseCore.liftProg (entryProg (F := F)) := rfl

/-- A proof of a program of the pipeline's is one of it lifted. -/
theorem lift_wp (d : Dev nD) (p : Prog (TpuEff nD τ sig (Elt F) (ΛP (F := F)) .tc) PUnit) (Q : PUnit → sProp 𝕄) :
    wp frame (wpE (D (F := F)) 𝒱 (SparseCore.T d) none) Set.univ p Q
      ⊢ wp frame (wpE ((K (F := F)).defs (D (F := F))) 𝒱 (SparseCore.T d) none) Set.univ (SparseCore.liftProg p) Q :=
  (K (F := F)).wp_liftProg (D (F := F)) 𝒱 (SparseCore.T d) Set.univ none p Q

/-- The staging cells of the pinned pipelines are distinct. -/
theorem pinned_inj : Function.Injective (Pipeline.cellOf (nD := nD) (τ := τ) (Pipeline.pin (pcfgs (F := F)) adm)) := cellOf_inj

/-- The call, from what a region asks to what it leaves. -/
theorem entry_wp (d : Dev nD) (Q : PUnit.{1} → sProp 𝕄) (R : Pipeline.RegionSeg (pcfgs (F := F)) adm (dats (B m)) (none : HIx 1) defs₀ 𝒱₀ (K (F := F)).L (K (F := F)).lev 0) :
    iprop((iprop(boundary (d.tc : Thread nD τ) ∗ R.post d) -∗ wp frame (wpE (D (F := F)) 𝒱 (d.tc : Thread nD τ) none) Set.univ (.ret ⟨⟩) Q)
        ∗ boundary (d.tc : Thread nD τ) ∗ R.pre d ∗ levAts (K (F := F)).L (K (F := F)).lev ∗ G d)
      ⊢ wp frame (wpE (D (F := F)) 𝒱 (d.tc : Thread nD τ) none) Set.univ (entryProg (F := F)) Q := by
  have h := R.wp (pcfgs (F := F)) adm (dats (B m)) (none : HIx 1) pinned_inj (EP (F := F)) defs₀ 𝒱₀ (K (F := F)).L (K (F := F)).lev d none
    (fun u hu => absurd hu (Option.not_mem_none u)) (fun _ => .ret ⟨⟩) Q
  refine BIBase.Entails.trans ?_ (BIBase.Entails.trans h ?_)
  · exact BIBase.Entails.rfl
  · exact BIBase.Entails.rfl

/-- The same, in the whole program. -/
theorem call_region (d : Dev nD) (Q : PUnit.{1} → sProp 𝕄) :
    iprop((iprop(boundary (SparseCore.T d) ∗ (region m).post d) -∗ Q ⟨⟩) ∗ boundary (SparseCore.T d) ∗ (region m).pre d ∗ levAts (K (F := F)).L (K (F := F)).lev ∗ G d)
      ⊢ wp frame (wpE ((K (F := F)).defs (D (F := F))) 𝒱 (SparseCore.T d) none) Set.univ (Prog.lift (.customCall (SparseCore.inner (Pipeline.entry 0)) ())) Q := by
  rw [call_lift]
  refine BIBase.Entails.trans ?_ (lift_wp d entryProg Q)
  refine BIBase.Entails.trans ?_ (entry_wp m d Q (region m))
  iintro ⟨HQ, H⟩
  isplitl [HQ]
  · iintro H
    rw [wp_ret]
    imodintro
    iapply HQ $$ H
  iexact H

/-- With what it takes and leaves spelled out. -/
theorem call_wp (d : Dev nD) (Q : PUnit.{1} → sProp 𝕄) :
    iprop((iprop(boundary (SparseCore.T d) ∗ (args m d ∗ (zLoc d ↦{fullShare} z m d) ∗ oLoc d ↦{fullShare} o m d) ∗ debts d) -∗ Q ⟨⟩)
        ∗ boundary (SparseCore.T d) ∗ (unscopedBufs d (B m d) ∗ debts d) ∗ levAts (K (F := F)).L (K (F := F)).lev ∗ G d)
      ⊢ wp frame (wpE ((K (F := F)).defs (D (F := F))) 𝒱 (SparseCore.T d) none) Set.univ (Prog.lift (.customCall (SparseCore.inner (Pipeline.entry 0)) ())) Q :=
  call_region m d Q

/-- The core's state before the SparseCores' call holds its debts apart. -/
theorem state_split (d : Dev nD) : ∃ R : sProp 𝕄, (K (F := F)).tcSt EH d 0 = iprop(debts d ∗ R) := ⟨_, rfl⟩

/-- What the SparseCores' call takes; -/
theorem takes (d : Dev nD) : (iprop((zLoc d ↦{fullShare} z m d) ∗ oLoc d ↦{fullShare} o m d) : sProp 𝕄)
    ⊢ bigSep Finset.univ fun c : Fin ((K (F := F)).nCore 0) => (P (z m) (o m)).st 0 d c := Entails.of_eq (dealt (z m) d (o m d))
/-- and what it leaves. -/
theorem leaves (d : Dev nD) : (bigSep Finset.univ fun c : Fin ((K (F := F)).nCore 0) => (P (z m) (o m)).dn 0 d c)
    ⊢ (iprop((zLoc d ↦{fullShare} z m d) ∗ oLoc d ↦{fullShare} routed (z m d)) : sProp 𝕄) := Entails.of_eq (dealt (z m) d (routed (z m d))).symm

/-- The program on device `d`'s TensorCore: the two operations, the TensorCore's call, the SparseCores' call. -/
theorem hmain (κ : GSem nD τ sig → ℕ) (d : Dev nD) :
    iprop((K (F := F)).ctx EH (P (z m) (o m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held]
  obtain ⟨R, hR⟩ := state_split (F := F) d
  rw [hR]
  simp only [main, wp_bind, wp_pure]
  iintro ⟨#Hctx, ⟨HO, Hst⟩, ⟨Hb, Hu, Hts, -⟩, HG⟩
  iapply (StableHlo.wp_hlo_within 𝒱 (SparseCore.T d) none Set.univ (op := asRow) asRow_sub (V := atLaunch m d)) $$ [Hb Hu]
  · isplitl [Hb] <;> iassumption
  iintro ⟨Hb, Hu⟩
  rw [wp_ret]
  imodintro
  iapply (StableHlo.wp_hlo_within 𝒱 (SparseCore.T d) none Set.univ (op := asRows) asRows_sub (V := asRow.result (atLaunch m d))) $$ [Hb Hu]
  · isplitl [Hb] <;> iassumption
  iintro ⟨Hb, Hu⟩
  rw [wp_ret]
  imodintro
  ihave Hu' := (call_held m d) $$ Hu
  iapply (call_wp m d _)
  isplitr [Hb HO Hu' HG]
  rotate_left
  · isplitl [Hb]; · iexact Hb
    isplitl [HO Hu']
    · isplitl [Hu']; · iexact Hu'
      iexact HO
    isplitr [HG]
    · iapply ((K (F := F)).ctx_levAts κ); iexact Hctx
    iexact HG
  iintro ⟨Hb, ⟨Hargs, Hzo⟩, HO⟩
  iapply ((K (F := F)).wp_run (D (F := F)) 𝒱 (EH := EH) (P := P (z m) (o m)) κ d 0) $$ [Hst HO Hzo Hargs Hb Hts]
  isplitr; · iexact Hctx
  isplitl [Hst HO]
  · iapply (Entails.of_eq hR.symm)
    isplitl [HO]; · iexact HO
    iexact Hst
  isplitl [Hzo]
  · iapply (takes m d) $$ Hzo
  iintro ⟨Hst, Hdn⟩
  ihave Hzo := (leaves m d) $$ Hdn
  icases Hzo with ⟨-, Ho⟩
  imodintro
  isplitl [Hst]; · iexact Hst
  isplitl [Hargs Ho]
  · isplitl [Hargs]; · iexact Hargs
    iexact Ho
  isplitl [Hb] <;> iassumption

/-- What a final state of a device shows. -/
def fq (d : Dev nD) (s' : Phys nD τ sig (Elt F)) : Prop :=
  s'.mem.mem (oLoc d) = routed (z m d) ∧ s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)

set_option maxRecDepth 16384 in
/-- A buffer held whole is what the state's memory has there. -/
theorem read_whole (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hi, HSI⟩
  ihave H := (persistent_entails_right (SI_pointsTo_agree (st := s') (ℓ := ℓ) (I := Finset.univ) (q := fullShare) (f := f))) $$ [HSI Hi]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨⟨H0, H1, H2, H3⟩, Ho⟩, HSI⟩
  ihave H := (read_whole s' _ _) $$ [HSI H0]
  · isplitl [H0] <;> iassumption
  icases H with ⟨%h0, HSI⟩
  ihave H := (read_whole s' _ _) $$ [HSI H1]
  · isplitl [H1] <;> iassumption
  icases H with ⟨%h1, HSI⟩
  ihave H := (read_whole s' _ _) $$ [HSI H2]
  · isplitl [H2] <;> iassumption
  icases H with ⟨%h2, HSI⟩
  ihave H := (read_whole s' _ _) $$ [HSI H3]
  · isplitl [H3] <;> iassumption
  icases H with ⟨%h3, HSI⟩
  ihave H := (read_whole s' _ _) $$ [HSI Ho]
  · isplitl [Ho] <;> iassumption
  icases H with ⟨%h, -⟩
  ipureintro
  exact ⟨h, h0, h1, h2, h3⟩

/-! ## The run -/

/-- What every run ends with: the result the routed logits, the arguments as launched, every semaphore at zero. -/
def QC : PUnit × MemSt nD τ sig (Elt F) → Prop := fun r =>
  (∀ d : Dev nD, r.2.mem (oLoc d) = routed (z m d) ∧ r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2) ∧ r.2.mem ((SparseCore.T d).loc main_arg3) = m ((SparseCore.T d).loc main_arg3)) ∧ r.2.sem = fun _ => 0

/-- Every run of the program from counters at zero ends, with that. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (z m) (o m)) (A := ∅) facts v₀
    (fun q hq => match q with | 0 => nomatch hq)
    (fun q _ => match q with | 0 => tileObl (z m) (o m) facts)
    (fun q _ => match q with | 0 => SparseCore.Cfg.VecSplit.of_plain (vecSplit (z m) (o m)))
    m ρ main G (FIN m) (u₀ (F := F)) (sep_elim_left.trans (hu₀ m)) (hmain m ρ) (fq m) (hfin m) (QC m) (fun _ h hz => ⟨h, hz⟩)

end Cert.Proof.KernelIdeal
-- ==== Proof.Value.Rank.lean ====
/-
  The two best of sixteen values of a linear order, ties going to the lower place: what it means (`TopTwo`), that there
  always are two such places, and that a stable sort by «greater first» puts them in front. No program and no float is
  mentioned here.
-/
module

public import Idealize.ShloMosaic.Lib.SortPrefix
public import Mathlib.Data.Finset.Max
public import Mathlib.Order.Monotone.Basic

@[expose] public section

namespace Cert.Rank

open Idealize.ShloMosaic

variable {α β : Type} [LinearOrder α] [LinearOrder β]

/-- Place `i` is the first that holds the greatest of the sixteen values, and `k` is the first other place that holds the
    greatest of the values at the places other than `i`. -/
structure TopTwo (x : Fin 16 → α) (i k : Fin 16) : Prop where
  le : ∀ e, x e ≤ x i
  first : ∀ e, x e = x i → i ≤ e
  ne : k ≠ i
  le' : ∀ e, e ≠ i → x e ≤ x k
  first' : ∀ e, e ≠ i → x e = x k → k ≤ e

/-- Among the places of a nonempty set there is a first one that holds the set's greatest value. -/
theorem exists_first (x : Fin 16 → α) (s : Finset (Fin 16)) (hs : s.Nonempty) :
    ∃ i ∈ s, (∀ e ∈ s, x e ≤ x i) ∧ ∀ e ∈ s, x e = x i → i ≤ e := by
  obtain ⟨m, hm, hle⟩ := s.exists_max_image x hs
  have ht : (s.filter fun e => x e = x m).Nonempty := ⟨m, Finset.mem_filter.mpr ⟨hm, rfl⟩⟩
  obtain ⟨hi, hx⟩ := Finset.mem_filter.mp ((s.filter fun e => x e = x m).min'_mem ht)
  refine ⟨_, hi, fun e he => (hle e he).trans hx.ge, fun e he h => ?_⟩
  exact Finset.min'_le _ _ (Finset.mem_filter.mpr ⟨he, h.trans hx⟩)

/-- Sixteen values always have two best places. -/
theorem exists_topTwo (x : Fin 16 → α) : ∃ i k, TopTwo x i k := by
  obtain ⟨i, -, hi, hi'⟩ := exists_first x Finset.univ ⟨0, Finset.mem_univ 0⟩
  obtain ⟨k, hk, hle, hf⟩ := exists_first x (Finset.univ.erase i) (by
    rw [← Finset.card_pos, Finset.card_erase_of_mem (Finset.mem_univ i)]
    decide)
  refine ⟨i, k, fun e => hi e (Finset.mem_univ e), fun e => hi' e (Finset.mem_univ e), Finset.ne_of_mem_erase hk,
    fun e he => hle e (Finset.mem_erase.mpr ⟨he, Finset.mem_univ e⟩),
    fun e he => hf e (Finset.mem_erase.mpr ⟨he, Finset.mem_univ e⟩)⟩

/-- A strictly increasing function of the values keeps the two best places. -/
theorem TopTwo.map {x : Fin 16 → α} {i k : Fin 16} (h : TopTwo x i k) {f : α → β} (hf : StrictMono f) :
    TopTwo (fun e => f (x e)) i k where
  le e := hf.monotone (h.le e)
  first e he := h.first e (hf.injective he)
  ne := h.ne
  le' e he := hf.monotone (h.le' e he)
  first' e he hx := h.first' e he (hf.injective hx)

/-- A stable sort reads its comparator only from a later place to an earlier one, so two comparators that agree there
    sort alike. -/
theorem stableSort_eq_of_later {ι : Type} (B B' : ι → ι → Bool) :
    ∀ l : List ι, l.Pairwise (fun a b => B b a = B' b a) → stableSort B l = stableSort B' l
  | [], _ => rfl
  | a :: l, h => by
    obtain ⟨ha, hl⟩ := List.pairwise_cons.mp h
    have ins : ∀ t : List ι, (∀ b ∈ t, B b a = B' b a) → insertBefore B a t = insertBefore B' a t := by
      intro t
      induction t with
      | nil => intro _; rfl
      | cons b t ih =>
        intro ht
        unfold insertBefore
        rw [ht b List.mem_cons_self, ih fun c hc => ht c (List.mem_cons_of_mem _ hc)]
    unfold stableSort
    rw [← stableSort_eq_of_later B B' l hl]
    exact ins _ fun b hb => ha b ((perm_stableSort B l).mem_iff.mp hb)

/-- Two comparators that sort alike put the same place at each position. -/
theorem sortedFrom_eq_of {n : ℕ} {B B' : Fin n → Fin n → Bool} (h : sortPositions n B = sortPositions n B') (p : Fin n) :
    sortedFrom B p = sortedFrom B' p := by
  unfold sortedFrom
  simp only [List.get_eq_getElem, h, Fin.val_cast]

/-- The stable sort by «greater first» has the two best places in front, the best one first. -/
theorem TopTwo.sorted {x : Fin 16 → α} {i k : Fin 16} (h : TopTwo x i k) (B : Fin 16 → Fin 16 → Bool)
    (hB : ∀ a b, B a b = decide (x b < x a)) : sortedFrom B 0 = i ∧ sortedFrom B 1 = k := by
  let B' : Fin 16 → Fin 16 → Bool := fun a b => decide (x b < x a) || (decide (x a = x b) && decide (a < b))
  have hB' : StrictTotalBefore B' :=
    StrictTotalBefore.of_key_then_position (fun u v : α => decide (v < u)) x (fun a => by simp)
      (fun a b c hab hbc => by simp only [decide_eq_true_eq] at *; exact lt_trans hbc hab)
      (fun a b => by simp only [decide_eq_true_eq]; rcases lt_trichotomy a b with h | h | h <;> tauto)
  have hs : sortPositions 16 B = sortPositions 16 B' := by
    refine stableSort_eq_of_later B B' _ ((List.pairwise_lt_finRange 16).imp fun {a b} hab => ?_)
    show B b a = B' b a
    rw [hB]
    simp only [B', not_lt_of_gt hab, decide_false, Bool.and_false, Bool.or_false]
  let σ : Fin 2 → Fin 16 := ![i, k]
  have key : ∀ j : Fin 2, sortedFrom B' (j.castLE (by decide)) = σ j := by
    refine hB'.sortedFrom_eq_of_prefix (by decide) σ ?_ ?_ ?_
    · intro a b hab
      fin_cases a <;> fin_cases b <;> first | rfl | exact absurd hab h.ne.symm | exact absurd hab h.ne
    · intro a b hab
      fin_cases a <;> fin_cases b <;> first | exact absurd hab (by decide) | skip
      show B' k i = false
      simp only [B', Bool.or_eq_false_iff, Bool.and_eq_false_iff, decide_eq_false_iff_not]
      refine ⟨not_lt.mpr (h.le k), ?_⟩
      by_cases e : x k = x i
      · exact .inr (not_lt.mpr (h.first k e))
      · exact .inl e
    · intro a p hp
      have h0 : p ≠ i := fun e => hp 0 e.symm
      fin_cases a
      · show B' p i = false
        simp only [B', Bool.or_eq_false_iff, Bool.and_eq_false_iff, decide_eq_false_iff_not]
        refine ⟨not_lt.mpr (h.le p), ?_⟩
        by_cases e : x p = x i
        · exact .inr (not_lt.mpr (h.first p e))
        · exact .inl e
      · show B' p k = false
        simp only [B', Bool.or_eq_false_iff, Bool.and_eq_false_iff, decide_eq_false_iff_not]
        refine ⟨not_lt.mpr (h.le' p h0), ?_⟩
        by_cases e : x p = x k
        · exact .inr (not_lt.mpr (h.first' p h0 e))
        · exact .inl e
  have c0 : (0 : Fin 16) = (0 : Fin 2).castLE (by decide) := by decide
  have c1 : (1 : Fin 16) = (1 : Fin 2).castLE (by decide) := by decide
  rw [sortedFrom_eq_of hs, sortedFrom_eq_of hs, c0, c1, key, key]
  exact ⟨rfl, rfl⟩

/-! ## Folds over the sixteen places -/

/-- A running maximum is the value that bounds its start and every term and is one of them. -/
theorem foldl_max_eq {ι : Type} (f : ι → α) (v : α) :
    ∀ (l : List ι) (b : α), b ≤ v → (∀ e ∈ l, f e ≤ v) → (b = v ∨ ∃ e ∈ l, f e = v) → l.foldl (fun a e => max a (f e)) b = v
  | [], b, _, _, h => by
    rcases h with h | ⟨e, he, -⟩
    · exact h
    · exact absurd he List.not_mem_nil
  | c :: l, b, hb, hle, h => by
    rw [List.foldl_cons]
    refine foldl_max_eq f v l _ (max_le hb (hle c List.mem_cons_self)) (fun e he => hle e (List.mem_cons_of_mem _ he)) ?_
    rcases h with h | ⟨e, he, hv⟩
    · exact .inl (by rw [h]; exact max_eq_left (hle c List.mem_cons_self))
    · rcases List.mem_cons.mp he with rfl | he
      · exact .inl (by rw [hv]; exact max_eq_right hb)
      · exact .inr ⟨e, he, hv⟩

end Cert.Rank

end
-- ==== Proof.Value.Reference.lean ====
/-
  The reference's result at one place. Its scores, its softmax, its mask and its quotient are named in turn (`res_eq` says
  that the program's result is the last of them), and each is read at a row and a column.
-/
module

public import Idealize.ShloMosaic.Lib.Pointwise
public import Idealize.ShloMosaic.Lib.Tactic.CleanTypes
public import Idealize.ShloMosaic.Lib.ScatterToDense.RefScatter
public import proofs.«01_k».proof.Proof.Gen.ReferenceIdeal.Run
public import proofs.«01_k».proof.Proof.Value.Rank

@[expose] public section

noncomputable section

namespace Cert.Proof.Reference

open Idealize.ShloMosaic Idealize.ShloMosaic.TcCoe Cert.ReferenceIdeal Cert.ReferenceIdeal.Gen Cert.Rank

/-- The scores: the user rows times the transposed weights, plus the bias on every row. -/
def scores (u : FVec Ideal S8192x128 .f32) (w : FVec Ideal S16x128 .f32) (b : FVec Ideal S16 .f32) : FVec Ideal S8192x16 .f32 :=
  addf (Host.dotGeneral dot_S8192x128_S128x16_S8192x16_1_0_0_1_n_n none u (transpose S128x16 [1, 0] w transposes_S16x128_S128x16_1_0))
    (broadcastInDim S8192x16 ![0, 1] bcast_S1x16_S8192x16_0_1 (broadcastInDim S1x16 ![1] bcast_S16_S1x16_1 b))

/-- The exponentials of the scores less their row's greatest. -/
def exps (x : FVec Ideal S8192x16 .f32) : FVec Ideal S8192x16 .f32 :=
  Host.exp (subf x (broadcastInDim S8192x16 ![0, 1] bcast_S8192x1_S8192x16_0_1 (broadcastInDim S8192x1 ![0] bcast_S8192_S8192x1_0
    (maximumf (broadcastInDim S8192 ![] bcast_S_S8192 (constant S_ .f32 0xFF800000#32))
      (Host.reduce FloatOps.maximumf x (constant S_ .f32 0xFF800000#32) reducesTo_S8192x16_S8192_d1 h_S_)))))

/-- The exponentials over their row's sum. -/
def soft (x : FVec Ideal S8192x16 .f32) : FVec Ideal S8192x16 .f32 :=
  Host.divf (exps x) (broadcastInDim S8192x16 ![0, 1] bcast_S8192x1_S8192x16_0_1 (broadcastInDim S8192x1 ![0] bcast_S8192_S8192x1_0
    (Host.reduceAdd (exps x) (constant S_ .f32 0x00000000#32) reducesTo_S8192x16_S8192_d1 h_S_)))

/-- The places of the two greatest of each row. -/
def places (p : FVec Ideal S8192x16 .f32) : IVec S8192x2 32 :=
  (Host.topK S8192x2 1 (FloatOps.cmpfTotal .gt) p sliceFits_S8192x16_S8192x2).2

/-- The row numbers, as a column. -/
def rowNumbers : IVec S8192x1 32 := broadcastInDim S8192x1 ![0] bcast_S8192_S8192x1_0 (iotaInDim S8192 32 0)

/-- The pairs (row, place) at which the mask is one. -/
def pairs (q : IVec S8192x2 32) : IVec S8192x2x2 32 :=
  concatenate S8192x2x2 2
    [⟨S8192x2x1, broadcastInDim S8192x2x1 ![0, 1] bcast_S8192x2_S8192x2x1_0_1 (broadcastInDim S8192x2 ![0, 1] bcast_S8192x1_S8192x2_0_1
        (select (cmpi .slt rowNumbers (broadcastInDim S8192x1 ![] bcast_S_S8192x1 (constantI S_ 32 0#32)))
          (addi rowNumbers (broadcastInDim S8192x1 ![] bcast_S_S8192x1 (constantI S_ 32 8192#32))) rowNumbers))⟩,
      ⟨S8192x2x1, broadcastInDim S8192x2x1 ![0, 1] bcast_S8192x2_S8192x2x1_0_1
        (select (cmpi .slt q (broadcastInDim S8192x2 ![] bcast_S_S8192x2 (constantI S_ 32 0#32)))
          (addi q (broadcastInDim S8192x2 ![] bcast_S_S8192x2 (constantI S_ 32 16#32))) q)⟩]
    concatenates_S8192x2x1_S8192x2x1_S8192x2x2_d2

/-- One at the two places of each row, zero elsewhere. -/
def mask (q : IVec S8192x2 32) : FVec Ideal S8192x16 .f32 :=
  Host.scatter scatter_S8192x16_S8192x2x2_S8192x2_n_01_01_2 (fun _ b => b)
    (broadcastInDim S8192x16 ![] bcast_S_S8192x16 (constant S_ .f32 0x00000000#32)) (pairs q)
    (broadcastInDim S8192x2 ![] bcast_S_S8192x2 (constant S_ .f32 0x3F800000#32))

/-- The masked weights over the larger of their row's sum and a small number. -/
def quotient (p k : FVec Ideal S8192x16 .f32) : FVec Ideal S8192x16 .f32 :=
  Host.divf (mulf p k) (broadcastInDim S8192x16 ![0, 1] bcast_S8192x1_S8192x16_0_1
    (maximumf (broadcastInDim S8192x1 ![0] bcast_S8192_S8192x1_0
        (Host.reduceAdd (mulf p k) (constant S_ .f32 0x00000000#32) reducesTo_S8192x16_S8192_d1 h_S_))
      (broadcastInDim S8192x1 ![] bcast_S_S8192x1 (constant S_ .f32 0x3089705F#32))))

/-- The whole reference from the scores. -/
def routed (x : FVec Ideal S8192x16 .f32) : FVec Ideal S8192x16 .f32 := quotient (soft x) (mask (places (soft x)))

set_option maxRecDepth 16384 in
/-- The reference program's result is the routed scores of its arguments. -/
theorem res_eq (m : (ℓ : Loc nD τ sig) → Buf (Elt Ideal) ℓ) (c : Dev nD) :
    Cert.ReferenceIdeal.Value.res_out0 m c
      = routed (scores (m ((c.tc : Thread nD τ).loc main_arg1)) (m ((c.tc : Thread nD τ).loc main_arg2)) (m ((c.tc : Thread nD τ).loc main_arg3))) := by
  unfold routed quotient mask pairs rowNumbers places soft exps scores
  rfl

/-! ## At a row and a column -/

/-- A score is the product of the user's row with the place's weights, plus the place's bias. -/
theorem scores_apply (u : FVec Ideal S8192x128 .f32) (w : FVec Ideal S16x128 .f32) (b : FVec Ideal S16 .f32) (r : Fin 8192) (e : Fin 16) :
    scores u w b (ix2 r e) = (∑ k : Fin 128, u (ix2 r k) * w (ix2 e k)) + b (ix1 e) := by
  pointwise [scores]

/-- Minus infinity's pattern denotes minus infinity. -/
theorem low_bits : Ideal.ofBits .f32 0xFF800000#32 = ⊥ := by simp [Ideal.ofBits, Ideal.ieee]

/-- An exponential is that of the score less the greatest of its row. -/
theorem exps_apply (x : FVec Ideal S8192x16 .f32) (r : Fin 8192) (e : Fin 16) :
    exps x (ix2 r e) = Ideal.exp (x (ix2 r e) - Finset.univ.fold max ⊥ fun k : Fin 16 => x (ix2 r k)) := by
  pointwise [exps]
  rw [low_bits, max_eq_right bot_le]

/-- A softmax weight is the exponential over the sum of its row's. -/
theorem soft_apply (x : FVec Ideal S8192x16 .f32) (r : Fin 8192) (e : Fin 16) :
    soft x (ix2 r e) = Ideal.div (exps x (ix2 r e)) (∑ k : Fin 16, exps x (ix2 r k)) := by
  pointwise [soft]

/-- A result is the masked weight over the larger of its row's masked sum and the small number. -/
theorem quotient_apply (p k : FVec Ideal S8192x16 .f32) (r : Fin 8192) (e : Fin 16) :
    quotient p k (ix2 r e) = Ideal.div (p (ix2 r e) * k (ix2 r e))
      (max (∑ a : Fin 16, p (ix2 r a) * k (ix2 r a)) (Ideal.ofBits .f32 0x3089705F#32)) := by
  pointwise [quotient]

/-- The places of a row whose two best ones are known. -/
theorem places_apply (p : FVec Ideal S8192x16 .f32) (r : Fin 8192) {i k : Fin 16} (h : TopTwo (fun e => p (ix2 r e)) i k) :
    places p (ix2 r 0) = BitVec.ofNat 32 i.val ∧ places p (ix2 r 1) = BitVec.ofNat 32 k.val := by
  have along : ∀ a b : Fin 16, (ix2 r a : S8192x16.Idx).along 1 b = ix2 r b := fun a b => by
    unfold Shape.Idx.along
    funext q
    match q with
    | 0 => rfl
    | 1 => rfl
  let B : Fin 16 → Fin 16 → Bool := fun a b => FloatOps.cmpfTotal (F := Ideal) (φ := .f32) .gt (p (ix2 r a)) (p (ix2 r b)) == 1#1
  have hB : ∀ a b, B a b = decide (p (ix2 r b) < p (ix2 r a)) := fun a b => by
    show (BitVec.ofBool (decide (p (ix2 r b) < p (ix2 r a))) == 1#1) = _
    cases decide (p (ix2 r b) < p (ix2 r a)) <;> rfl
  have key : ∀ (j : Fin 2) (j' : Fin 16), j'.val = j.val → places p (ix2 r j) = BitVec.ofNat 32 (sortedFrom B j').val := fun j j' hj => by
    have hj' : j' = ⟨j.val, by have := j.isLt; omega⟩ := Fin.ext hj
    rw [hj']
    pointwise [places, Host.topK, Host.sort2]
    simp only [along]
    rfl
  obtain ⟨hi, hk⟩ := h.sorted B hB
  exact ⟨by rw [key 0 0 rfl, hi], by rw [key 1 1 rfl, hk]⟩

/-- The mask of a row whose two places are known. -/
theorem mask_apply (q : IVec S8192x2 32) (r : Fin 8192) {i k : Fin 16} (h0 : q (ix2 r 0) = BitVec.ofNat 32 i.val)
    (h1 : q (ix2 r 1) = BitVec.ofNat 32 k.val) (e : Fin 16) :
    mask q (ix2 r e) = if e = k then 1 else if e = i then 1 else (0 : EReal) := by
  let W : Fin 8192 → ℕ → BitVec 32 := fun a n => if h : n < 2 then pairs q (ix3 a ⟨n, h⟩ 1) else 0#32
  have hW : ∀ n : Fin 2, W r n.val = Scalar.select (IntOp.cmpi .slt (q (ix2 r n)) 0#32) (IntOp.addi (q (ix2 r n)) 16#32) (q (ix2 r n)) := fun n => by
    show dite _ _ _ = _
    rw [dif_pos n.isLt]
    pointwise [pairs]
  have hp : ∀ a : Fin 16, (BitVec.ofNat 32 a.val).toNat = a.val := fun a =>
    WordCmp.toNat_ofNat_of_lt (by have := a.isLt; omega)
  have hw : ∀ a : Fin 16, Scalar.select (IntOp.cmpi .slt (BitVec.ofNat 32 a.val) 0#32) (IntOp.addi (BitVec.ofNat 32 a.val) 16#32)
      (BitVec.ofNat 32 a.val) = BitVec.ofNat 32 a.val := fun a =>
    Routing.wrap_of_lt _ _ (by rw [hp]; have := a.isLt; omega)
  have w0 : (W r 0).toNat = i.val := by rw [show W r 0 = _ from hW 0, h0, hw, hp]
  have w1 : (W r 1).toNat = k.val := by rw [show W r 1 = _ from hW 1, h1, hw, hp]
  have z0 : broadcastInDim S8192x16 ![] bcast_S_S8192x16 (constant (F := Ideal) S_ .f32 0x00000000#32) (ValueIdx.ix2 r e) = (0 : EReal) := by
    rw [← ix2_eq_valueIdx]
    pointwise
  have hs := ScatterToDense.scatter_eq_GS scatter_S8192x16_S8192x2x2_S8192x2_n_01_01_2 rfl rfl rfl (by decide) (by decide)
    (broadcastInDim S8192x16 ![] bcast_S_S8192x16 (constant (F := Ideal) S_ .f32 0x00000000#32)) (pairs q)
    (broadcastInDim S8192x2 ![] bcast_S_S8192x2 (constant (F := Ideal) S_ .f32 0x3F800000#32)) W (fun _ _ => (1 : EReal))
    (fun a n => by
      rw [← ix3_eq_valueIdx]
      pointwise [pairs, rowNumbers]
      exact Routing.wrap_of_lt _ _ (by
        rw [WordCmp.toNat_ofNat_of_lt (by have := a.isLt; omega)]
        have := a.isLt
        omega)) (fun a n => by
      show _ = dite _ _ _
      rw [dif_pos n.isLt, ix3_eq_valueIdx]) (fun a n => by pointwise) r e
  rw [ix2_eq_valueIdx]
  unfold mask
  rw [hs, ScatterToDense.GS_succ, ScatterToDense.GS_succ, ScatterToDense.GS_zero, w0, w1]
  simp only [← Fin.ext_iff]
  rw [z0]

end Cert.Proof.Reference

end
-- ==== Proof.Value.Row.lean ====
/-
  One row of the router over the extended reals: at scores whose two best places are `i` and `k`, the row holds
  `1 / (1 + exp (c k - c i))` at `i`, one less that at `k`, and zero elsewhere (`gate_eq`).
-/
module

public import Idealize.ShloMosaic.Lib.Pointwise.Tactic
public import Idealize.ShloMosaic.Lib.WordCmp
public import proofs.«01_k».proof.Proof.Router
public import proofs.«01_k».proof.Proof.Value.Rank

@[expose] public section

noncomputable section

namespace Cert.Router

open Idealize.ShloMosaic Cert.Rank

/-- Minus infinity's pattern denotes minus infinity. -/
theorem low_eq : (low : Ideal .f32) = (⊥ : EReal) := by
  show Ideal.ofBits .f32 0xFF800000#32 = ⊥
  simp [Ideal.ofBits, Ideal.ieee]

theorem one_eq : (one : Ideal .f32) = (1 : EReal) := Ideal.ofBits_one_f32

theorem zero_eq : (zero : Ideal .f32) = (0 : EReal) := Ideal.ofBits_zero_f32

/-- The number a scan reports is the first place whose test holds. -/
theorem firstHit_eq (hit : Fin 16 → BitVec 1) (i : Fin 16) (hi : hit i = 1) (hf : ∀ e, hit e = 1 → i ≤ e) :
    firstHit hit = BitVec.ofNat 32 i.val := by
  have aux : ∀ l : List (Fin 16), l.Pairwise (· < ·) → i ∈ l →
      l.foldr (fun e a => Scalar.select (hit e) (BitVec.ofNat 32 e.val) a) 0#32 = BitVec.ofNat 32 i.val := by
    intro l
    induction l with
    | nil => intro _ h; exact absurd h List.not_mem_nil
    | cons e l ih =>
      intro hp hm
      obtain ⟨he, hl⟩ := List.pairwise_cons.mp hp
      rw [List.foldr_cons]
      unfold Scalar.select
      by_cases h : hit e = 1
      · rw [if_pos h]
        rcases List.mem_cons.mp hm with rfl | hm
        · rfl
        · exact absurd (hf e h) (not_le.mpr (he i hm))
      · rw [if_neg h]
        rcases List.mem_cons.mp hm with rfl | hm
        · exact absurd hi h
        · exact ih hl hm
  exact aux _ (List.pairwise_lt_finRange 16) (List.mem_finRange i)

variable {c : Fin 16 → EReal} {i k : Fin 16}

/-- The best score is the one at the best place. -/
theorem best_eq (h : TopTwo c i k) : best (F := Ideal) c = c i := by
  show (List.finRange 15).foldl (fun a e => max a (c e.succ)) (c 0) = c i
  refine foldl_max_eq (fun e : Fin 15 => c e.succ) (c i) _ _ (h.le 0) (fun e _ => h.le _) ?_
  rcases Fin.eq_zero_or_eq_succ i with e | ⟨j, e⟩
  · exact .inl (by rw [e])
  · exact .inr ⟨j, List.mem_finRange j, by rw [e]⟩

/-- The first place reported is the best one. -/
theorem fst_eq (h : TopTwo c i k) : fst (F := Ideal) c = BitVec.ofNat 32 i.val := by
  have hc : ∀ e, FloatOps.cmpf (F := Ideal) (φ := .f32) .oeq (c e) (best (F := Ideal) c) = BitVec.ofBool (decide (c e = c i)) := fun e => by
    rw [best_eq h]; rfl
  refine firstHit_eq _ i ?_ fun e he => ?_
  · rw [hc, decide_eq_true rfl]; rfl
  · rw [hc] at he
    exact h.first e ((WordCmp.ofBool_decide_eq_one_iff _).mp he)

/-- Two places are the same word exactly when they are the same place. -/
theorem place_eq_iff (a b : Fin 16) : BitVec.ofNat 32 a.val = BitVec.ofNat 32 b.val ↔ a = b := by
  rw [WordCmp.ofNat_eq_ofNat_iff (by have := a.isLt; omega) (by have := b.isLt; omega), Fin.ext_iff]

/-- The best of the other scores is the one at the second place. -/
theorem second_eq (h : TopTwo c i k) : second (F := Ideal) c = c k := by
  have hs : ∀ e, (Scalar.select (IntOp.cmpi .eq (fst (F := Ideal) c) (BitVec.ofNat 32 e.val)) (low (F := Ideal)) (c e) : EReal)
      = if i = e then ⊥ else c e := fun e => by
    rw [fst_eq h, WordCmp.cmpi_eq_eq]
    unfold Scalar.select
    rw [low_eq]
    exact if_congr ((WordCmp.ofBool_decide_eq_one_iff _).trans (place_eq_iff i e)) rfl rfl
  show (List.finRange 16).foldl (fun a e => max a
    (Scalar.select (IntOp.cmpi .eq (fst (F := Ideal) c) (BitVec.ofNat 32 e.val)) (low (F := Ideal)) (c e) : EReal)) (low : Ideal .f32) = c k
  rw [low_eq]
  rw [low_eq] at hs
  refine foldl_max_eq (fun e : Fin 16 => (Scalar.select (IntOp.cmpi .eq (fst (F := Ideal) c) (BitVec.ofNat 32 e.val)) (⊥ : EReal) (c e) : EReal))
    (c k) _ _ bot_le (fun e _ => ?_) (.inr ⟨k, List.mem_finRange k, ?_⟩)
  · rw [hs]
    split
    · exact bot_le
    · next he => exact h.le' e fun q => he q.symm
  · rw [hs, if_neg fun q => h.ne q.symm]

/-- The second place reported is the second best one. -/
theorem snd_eq (h : TopTwo c i k) : snd (F := Ideal) c = BitVec.ofNat 32 k.val := by
  have hc : ∀ e, IntOp.andi (FloatOps.cmpf (F := Ideal) (φ := .f32) .oeq (c e) (second (F := Ideal) c))
      (IntOp.cmpi .ne (fst (F := Ideal) c) (BitVec.ofNat 32 e.val)) = 1 ↔ c e = c k ∧ e ≠ i := fun e => by
    have e1 : FloatOps.cmpf (F := Ideal) (φ := .f32) .oeq (c e) (second (F := Ideal) c) = BitVec.ofBool (decide (c e = c k)) := by
      rw [second_eq h]; rfl
    rw [e1, fst_eq h, WordCmp.cmpi_ne_eq, WordCmp.andi_ofBool, WordCmp.ofBool_eq_one_iff', Bool.and_eq_true,
      decide_eq_true_eq, decide_eq_true_eq, Ne, place_eq_iff]
    exact and_congr_right fun _ => ⟨fun a b => a b.symm, fun a b => a b.symm⟩
  exact firstHit_eq _ k ((hc k).mpr ⟨rfl, h.ne⟩) fun e he => h.first' e ((hc e).mp he).2 ((hc e).mp he).1

/-- The routed row at scores whose two best places are known. -/
theorem gate_eq (h : TopTwo c i k) (e : Fin 16) :
    gate (F := Ideal) c e = if e = k then 1 - Ideal.div 1 (1 + Ideal.exp (c k - c i))
      else if e = i then Ideal.div 1 (1 + Ideal.exp (c k - c i)) else (0 : EReal) := by
  have hw : weight (F := Ideal) c = Ideal.div 1 (1 + Ideal.exp (c k - c i)) := by
    show Ideal.div (one : Ideal .f32) ((one : Ideal .f32) + Ideal.exp (second (F := Ideal) c - best (F := Ideal) c)) = _
    rw [one_eq, second_eq h, best_eq h]
  have hw' : weight' (F := Ideal) c = 1 - Ideal.div 1 (1 + Ideal.exp (c k - c i)) := by
    show (one : Ideal .f32) - weight (F := Ideal) c = _
    rw [one_eq, hw]
  have ht : ∀ a : Fin 16, (BitVec.ofNat 32 a.val).toNat = a.val := fun a =>
    WordCmp.toNat_ofNat_of_lt (by have := a.isLt; omega)
  unfold gate
  rw [hw, hw', zero_eq, snd_eq h, fst_eq h, ht, ht]
  simp only [← Fin.ext_iff]

end Cert.Router

end
-- ==== Proof.Value.Match.lean ====
/-
  Where the scores of a row are real numbers, the reference and the router leave the same row: with `i` and `k` its two
  best places, `1 / (1 + exp (x k - x i))` at `i`, one less that at `k`, and zero elsewhere.
-/
module

public import proofs.«01_k».proof.Proof.Value.Reference
public import proofs.«01_k».proof.Proof.Value.Row

@[expose] public section

noncomputable section

namespace Cert.Proof.Match

open Idealize.ShloMosaic Cert.ReferenceIdeal Cert.Rank Cert.Proof.Reference

/-- The number below which the reference does not let its divisor fall is a real, and at most one sixteenth. -/
theorem floor_bits : ∃ s : ℝ, Ideal.ofBits .f32 0x3089705F#32 = (s : EReal) ∧ s ≤ 1 / 16 := by
  have e : Ideal.ofBits .f32 0x3089705F#32 = ((9007199 * (2 : ℝ) ^ (-53 : ℤ) : ℝ) : EReal) := by
    simp [Ideal.ofBits, Ideal.ieee]
  exact ⟨_, e, by norm_num⟩

/-- A finite sum of reals is the real sum. -/
theorem coe_sum (f : Fin 16 → ℝ) : (∑ a, (f a : EReal)) = ((∑ a, f a : ℝ) : EReal) := by
  induction (Finset.univ : Finset (Fin 16)) using Finset.induction_on with
  | empty => simp
  | insert a s ha ih => rw [Finset.sum_insert ha, Finset.sum_insert ha, ih, EReal.coe_add]

/-- A quotient of reals with a divisor that is not zero is the real quotient. -/
theorem div_real (a : ℝ) {b : ℝ} (hb : b ≠ 0) : Ideal.div (a : EReal) (b : EReal) = ((a / b : ℝ) : EReal) := by
  rw [Ideal.div_coe hb, ← EReal.coe_mul, mul_one_div]

variable {x : Fin 16 → ℝ} {i k : Fin 16}

/-- The sum of the exponentials. -/
def total (x : Fin 16 → ℝ) (i : Fin 16) : ℝ := ∑ a, Real.exp (x a - x i)

theorem total_pos (x : Fin 16 → ℝ) (i : Fin 16) : 0 < total x i :=
  Finset.sum_pos (fun a _ => Real.exp_pos _) ⟨0, Finset.mem_univ 0⟩

theorem total_le (h : TopTwo x i k) : total x i ≤ 16 := by
  unfold total
  calc ∑ a, Real.exp (x a - x i) ≤ ∑ _a : Fin 16, (1 : ℝ) :=
        Finset.sum_le_sum fun a _ => Real.exp_le_one_iff.mpr (sub_nonpos.mpr (h.le a))
    _ = 16 := by simp

/-- The row's softmax. -/
def share (x : Fin 16 → ℝ) (i e : Fin 16) : ℝ := Real.exp (x e - x i) / total x i

variable (X : FVec Ideal S8192x16 .f32) (r : Fin 8192) (hX : ∀ e : Fin 16, X (ix2 r e) = (x e : EReal))
include hX

theorem exps_real (h : TopTwo x i k) (e : Fin 16) : exps X (ix2 r e) = (Real.exp (x e - x i) : EReal) := by
  have hm : (Finset.univ.fold max ⊥ fun a : Fin 16 => X (ix2 r a)) = (x i : EReal) := by
    refine le_antisymm (Finset.fold_max_le _ |>.mpr ⟨bot_le, fun a _ => ?_⟩) (Finset.le_fold_max _ |>.mpr (.inr ⟨i, Finset.mem_univ i, ?_⟩))
    · rw [hX]; exact EReal.coe_le_coe_iff.mpr (h.le a)
    · rw [hX]
  rw [exps_apply, hm, hX, ← EReal.coe_sub]
  rfl

theorem soft_real (h : TopTwo x i k) (e : Fin 16) : soft X (ix2 r e) = (share x i e : EReal) := by
  rw [soft_apply, exps_real X r hX h]
  simp only [exps_real X r hX h]
  rw [coe_sum]
  exact div_real _ (total_pos x i).ne'

omit hX in
/-- The shares are in the order of the scores. -/
theorem share_strictMono (x : Fin 16 → ℝ) (i : Fin 16) : StrictMono fun t : ℝ => Real.exp (t - x i) / total x i := fun a b hab =>
  div_lt_div_of_pos_right (Real.exp_lt_exp.mpr (sub_lt_sub_right hab _)) (total_pos x i)

/-- The reference's row. -/
theorem routed_real (h : TopTwo x i k) (e : Fin 16) :
    routed X (ix2 r e) = (((if e = k then share x i k else if e = i then share x i i else 0) / (share x i i + share x i k) : ℝ) : EReal) := by
  have ht : TopTwo (fun e => soft X (ix2 r e)) i k := by
    have e : (fun e : Fin 16 => soft X (ix2 r e)) = fun e => (share x i e : EReal) := funext fun e => soft_real X r hX h e
    rw [e]
    exact (h.map (share_strictMono x i)).map EReal.coe_strictMono
  obtain ⟨h0, h1⟩ := places_apply (soft X) r ht
  have hm : ∀ a, soft X (ix2 r a) * mask (places (soft X)) (ix2 r a)
      = ((if a = k then share x i k else if a = i then share x i i else 0 : ℝ) : EReal) := fun a => by
    rw [mask_apply _ r h0 h1, soft_real X r hX h]
    by_cases ak : a = k
    · rw [if_pos ak, if_pos ak, mul_one, ak]
    · rw [if_neg ak, if_neg ak]
      by_cases ai : a = i
      · rw [if_pos ai, if_pos ai, mul_one, ai]
      · rw [if_neg ai, if_neg ai, mul_zero, EReal.coe_zero]
  have hsum : (∑ a, if a = k then share x i k else if a = i then share x i i else 0 : ℝ) = share x i i + share x i k := by
    rw [Finset.sum_eq_add (ι := Fin 16) i k h.ne.symm (fun a _ ha => by rw [if_neg ha.2, if_neg ha.1])
      (fun q => absurd (Finset.mem_univ _) q) (fun q => absurd (Finset.mem_univ _) q),
      if_neg h.ne.symm, if_pos rfl, if_pos rfl]
  obtain ⟨s, hs, hs'⟩ := floor_bits
  have hi : 1 / 16 ≤ share x i i := by
    unfold share
    rw [sub_self, Real.exp_zero]
    exact one_div_le_one_div_of_le (total_pos x i) (total_le h)
  have hk : 0 < share x i k := div_pos (Real.exp_pos _) (total_pos x i)
  unfold routed
  rw [quotient_apply, hm]
  simp only [hm]
  rw [coe_sum, hsum, hs, max_eq_left (EReal.coe_le_coe_iff.mpr (by linarith)), div_real _ (by linarith)]

/-- The router leaves the reference's row. -/
theorem gate_eq_routed (e : Fin 16) : Cert.Router.gate (F := Ideal) (fun a => X (ix2 r a)) e = routed X (ix2 r e) := by
  obtain ⟨i, k, h⟩ := exists_topTwo x
  have hc : (fun a : Fin 16 => X (ix2 r a)) = fun a => (x a : EReal) := funext hX
  rw [routed_real X r hX h, hc, Cert.Router.gate_eq (h.map EReal.coe_strictMono)]
  have hpos : 0 < 1 + Real.exp (x k - x i) := by positivity
  have hw : Ideal.div 1 (1 + Ideal.exp ((x k : EReal) - (x i : EReal))) = ((1 / (1 + Real.exp (x k - x i)) : ℝ) : EReal) := by
    rw [← EReal.coe_sub]
    show Ideal.div 1 (1 + (Real.exp (x k - x i) : EReal)) = _
    rw [← EReal.coe_one, ← EReal.coe_add, div_real _ hpos.ne']
  have ht := (total_pos x i).ne'
  simp only [hw]
  rw [← EReal.coe_one, ← EReal.coe_sub, ← EReal.coe_zero]
  unfold share
  rw [sub_self, Real.exp_zero]
  split
  · congr 1
    field_simp
    ring
  · split
    · congr 1
      field_simp
    · rw [zero_div]

end Cert.Proof.Match

end
-- ==== Proof.Value.Finite.lean ====
/-
  What the precondition says: every entry of the user rows, the weights and the bias is a real number.
-/
module

public import Idealize.ShloMosaic.Lib.Pointwise
public import Idealize.ShloMosaic.Lib.WordCmp
public import proofs.«01_k».proof.Pre_finite

@[expose] public section

noncomputable section

namespace Cert.Pre_finite

open Idealize.ShloMosaic

/-- The shape relations that the precondition's operations take. -/
instance facts : Facts where
  bcast_S_S8192x128 := by decide
  reducesTo_S8192x128_S_d0_1 := by decide
  h_S_ := by decide
  bcast_S_S16x128 := by decide
  reducesTo_S16x128_S_d0_1 := by decide
  bcast_S_S16 := by decide
  reducesTo_S16_S_d0 := by decide

/-- Plus infinity's pattern denotes plus infinity. -/
theorem top_bits : Ideal.ofBits .f32 0x7F800000#32 = ⊤ := by simp [Ideal.ofBits, Ideal.ieee]

/-- A number whose absolute value is below plus infinity is real. -/
theorem real_of_abs_lt {a : EReal} (h : max a (-a) < ⊤) : ∃ t : ℝ, a = t := by
  induction a with
  | bot => simp at h
  | top => simp at h
  | coe t => exact ⟨t, rfl⟩

/-- A conjunction over all the places is one exactly when every bit is. -/
theorem fold_andi {ι : Type} (s : Finset ι) (f : ι → BitVec 1) (h : s.fold IntOp.andi 1#1 f = 1#1) : ∀ a ∈ s, f a = 1#1 := by
  classical
  induction s using Finset.induction_on with
  | empty => intro a ha; exact absurd ha (Finset.notMem_empty a)
  | insert b s hb ih =>
    rw [Finset.fold_insert hb] at h
    have both : ∀ p q : BitVec 1, IntOp.andi p q = 1#1 → p = 1#1 ∧ q = 1#1 := by decide
    obtain ⟨h1, h2⟩ := both _ _ h
    intro a ha
    rcases Finset.mem_insert.mp ha with rfl | ha
    · exact h1
    · exact ih h2 a ha

/-- An array of which every absolute value is below plus infinity is an array of reals. -/
theorem reals {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant S_ .f32 0x7F800000#32)))
      (constantI S_ 1 1#1) hr hu ix0 = 1#1) (j : s.Idx) : ∃ t : ℝ, x j = (t : EReal) := by
  rw [Host.reduce_eq_fold] at h
  have e := fold_andi _ _ h j (Finset.mem_filter.mpr ⟨Finset.mem_univ j, funext fun a => a.elim0⟩)
  have e' : BitVec.ofBool (decide (max (x j) (-(x j)) < Ideal.ofBits .f32 0x7F800000#32)) = 1#1 := e
  rw [top_bits, WordCmp.ofBool_decide_eq_one_iff] at e'
  exact real_of_abs_lt e'

/-- Under the precondition every entry of the last three arguments is real. -/
theorem real_of (h : FVec Ideal S8192x1024 .f32) (u : FVec Ideal S8192x128 .f32) (w : FVec Ideal S16x128 .f32) (b : FVec Ideal S16 .f32)
    (hf : fn (F := Ideal) h u w b = fun _ => 1#1) :
    (∀ j, ∃ t : ℝ, u j = (t : EReal)) ∧ (∀ j, ∃ t : ℝ, w j = (t : EReal)) ∧ ∀ j, ∃ t : ℝ, b j = (t : EReal) := by
  have e := congrFun hf ix0
  unfold fn at e
  have both : ∀ p q : BitVec 1, IntOp.andi p q = 1#1 → p = 1#1 ∧ q = 1#1 := by decide
  obtain ⟨e, eb⟩ := both _ _ e
  obtain ⟨eu, ew⟩ := both _ _ e
  exact ⟨reals u _ _ _ eu, reals w _ _ _ ew, reals b _ _ _ eb⟩

end Cert.Pre_finite

end
-- ==== Proof.Value.Scores.lean ====
/-
  The scores that the TensorCore's call leaves are the reference's, they are real numbers where the arguments are, and the
  kernel's result is then the reference's.
-/
module

public import proofs.«01_k».proof.Proof.Value.Match
public import proofs.«01_k».proof.Proof.Value.Finite
public import proofs.«01_k».proof.Proof.KernelIdeal.Launch

@[expose] public section

noncomputable section

namespace Cert.Proof.Scores

open Idealize.ShloMosaic Cert.KernelIdeal Cert.KernelIdeal.Gen

/-- A block's score: the row's product with the place's weights, plus the place's bias. -/
theorem pay_apply (u : FVec Ideal S1024x128 .f32) (w : FVec Ideal S16x128 .f32) (b : FVec Ideal S1x16 .f32) (r : Fin 1024) (e : Fin 16) :
    k0_pay1 (F := Ideal) u w b (ix2 r e) = (∑ k : Fin 128, u (ix2 r k) * w (ix2 e k)) + b (ix2 0 e) := by
  pointwise [k0_pay1]

/-- Every row of the repeated bias is the bias. -/
theorem biasRows_apply (b : FVec Ideal S16 .f32) (i : Fin 8) (e : Fin 16) : KernelIdeal.biasRows (F := Ideal) b (ix2 i e) = b (ix1 e) := by
  pointwise [KernelIdeal.biasRows]

/-- The row that the body reads is the first, -/
theorem biasRow_apply (b : FVec Ideal S8x16 .f32) (e : Fin 16) : KernelIdeal.biasRow (F := Ideal) b (ix2 0 e) = b (ix2 0 e) := by
  unfold KernelIdeal.biasRow
  refine congrArg b (funext fun a => ?_)
  match a with
  | ⟨0, _⟩ => rfl
  | ⟨1, _⟩ => exact Fin.ext (by show 0 + 1 * e.val = e.val; omega)

/-- The kernel's scores are the reference's. -/
theorem logits_eq (u : FVec Ideal S8192x128 .f32) (w : FVec Ideal S16x128 .f32) (b : FVec Ideal S16 .f32) (r : Fin 8192) (e : Fin 16) :
    KernelIdeal.logits (F := Ideal) u w (KernelIdeal.biasRows b) (ix2 r e) = Reference.scores u w b (ix2 r e) := by
  have hr := r.isLt
  have ht : r.val / 1024 < 8 := by omega
  have hl : r.val % 1024 < 1024 := Nat.mod_lt _ (by decide)
  rw [KernelIdeal.logits_at (F := Ideal) u w _ (r.val / 1024) ht (ix2 ⟨r.val % 1024, hl⟩ e) (ix2 r e)
      (by show r.val = 1024 * (r.val / 1024) + r.val % 1024; omega) rfl,
    pay_apply, biasRow_apply, biasRows_apply, Reference.scores_apply]
  have hu : ∀ k : Fin 128, KernelIdeal.uRow (r.val / 1024) ht (ix2 ⟨r.val % 1024, hl⟩ k) = ix2 r k := fun k => funext fun a => by
    match a with
    | ⟨0, _⟩ => exact Fin.ext (by show 1024 * (r.val / 1024) + r.val % 1024 = r.val; omega)
    | ⟨1, _⟩ => rfl
  simp only [hu]

/-- A sum of products of reals, and a real added, is real. -/
theorem real_score {n : ℕ} (f g : Fin n → EReal) (c : EReal) (hf : ∀ k, ∃ t : ℝ, f k = (t : EReal)) (hg : ∀ k, ∃ t : ℝ, g k = (t : EReal))
    (hc : ∃ t : ℝ, c = (t : EReal)) : ∃ t : ℝ, (∑ k, f k * g k) + c = (t : EReal) := by
  have hs : ∃ t : ℝ, ∑ k, f k * g k = (t : EReal) := by
    induction (Finset.univ : Finset (Fin n)) using Finset.induction_on with
    | empty => exact ⟨0, by simp⟩
    | insert a s ha ih =>
      obtain ⟨p, hp⟩ := hf a
      obtain ⟨q, hq⟩ := hg a
      obtain ⟨t, ht⟩ := ih
      exact ⟨p * q + t, by rw [Finset.sum_insert ha, hp, hq, ht, EReal.coe_add, EReal.coe_mul]⟩
  obtain ⟨t, ht⟩ := hs
  obtain ⟨q, hq⟩ := hc
  exact ⟨t + q, by rw [ht, hq, EReal.coe_add]⟩

/-- Where the user rows, the weights and the bias are real, the kernel's result is the reference's. -/
theorem routed_eq (u : FVec Ideal S8192x128 .f32) (w : FVec Ideal S16x128 .f32) (b : FVec Ideal S16 .f32)
    (hu : ∀ j, ∃ t : ℝ, u j = (t : EReal)) (hw : ∀ j, ∃ t : ℝ, w j = (t : EReal)) (hb : ∀ j, ∃ t : ℝ, b j = (t : EReal)) :
    KernelIdeal.routed (F := Ideal) (KernelIdeal.logits u w (KernelIdeal.biasRows b)) = Reference.routed (Reference.scores u w b) := by
  funext j
  obtain ⟨r, e, rfl⟩ : ∃ (r : Fin 8192) (e : Fin 16), j = ix2 r e := ⟨j 0, j 1, funext fun a => by
    match a with
    | ⟨0, _⟩ => rfl
    | ⟨1, _⟩ => rfl⟩
  have hx : ∀ a : Fin 16, ∃ t : ℝ, Reference.scores u w b (ix2 r a) = (t : EReal) := fun a => by
    rw [Reference.scores_apply]
    exact real_score _ _ _ (fun _ => hu _) (fun _ => hw _) (hb _)
  choose x hx using hx
  rw [← Match.gate_eq_routed _ r hx e]
  have h1 : (fun a : Fin 16 => KernelIdeal.logits (F := Ideal) u w (KernelIdeal.biasRows b) (Function.update (ix2 r e) 1 a))
      = fun a => Reference.scores u w b (ix2 r a) := funext fun a => by
    rw [← logits_eq]
    refine congrArg _ (funext fun c => ?_)
    match c with
    | ⟨0, _⟩ => rfl
    | ⟨1, _⟩ => rfl
  show Cert.Router.gate (F := Ideal) _ e = _
  exact congrArg (fun f => Cert.Router.gate (F := Ideal) f e) h1

end Cert.Proof.Scores

end
-- ==== Proof.lean ====
module

public import proofs.«01_k».proof.Defs
public import proofs.«01_k».proof.Proof.Kernel.Launch
public import proofs.«01_k».proof.Proof.KernelIdeal.Launch
public import proofs.«01_k».proof.Proof.Gen.ReferenceIdeal
public import proofs.«01_k».proof.Proof.Gen.ReferenceIdeal.Run
public import proofs.«01_k».proof.Proof.Value.Scores
public import Idealize.ShloMosaic.Adequacy
public import Idealize.ShloMosaic.Init

@[expose] public section

noncomputable section

namespace Cert.Proof

open Idealize.ShloMosaic Idealize.SL.Sem

/-- Every run of the kernel ends, its arguments as launched and every semaphore at zero. -/
theorem frame_kernel : Cert.quiescent_Kernel (hKernel := Cert.Kernel.Gen.facts) := fun m g _ =>
  (θ_run (Cert.Kernel.defs (F := Bits)) (Cert.Kernel.threads (F := Bits)) ⟨m, fun _ => 0, g⟩).mono (fun _ h => ⟨fun c => (h.1 c).2, h.2⟩) (Kernel.run_main (F := Bits) m g)

/-- The same of the kernel read over the extended reals, -/
theorem frame_ideal : Cert.quiescent_KernelIdeal (hKernelIdeal := Cert.KernelIdeal.Gen.facts) := fun m g _ =>
  (θ_run (Cert.KernelIdeal.defs (F := Ideal)) (Cert.KernelIdeal.threads (F := Ideal)) ⟨m, fun _ => 0, g⟩).mono (fun _ h => ⟨fun c => (h.1 c).2, h.2⟩) (KernelIdeal.run_main (F := Ideal) m g)

/-- and of the reference. -/
theorem frame_reference : Cert.quiescent_ReferenceIdeal (hReferenceIdeal := Cert.ReferenceIdeal.Gen.facts) := fun m g _ =>
  (θ_run (Cert.ReferenceIdeal.defs (F := Ideal)) (onTc (τ := Cert.ReferenceIdeal.τ) (Cert.ReferenceIdeal.main (F := Ideal))) ⟨m, fun _ => 0, g⟩).mono
    (fun r h => ⟨fun c => (h c).2, Idealize.ShloMosaic.sem_eq_zero_of_no_sems (by decide) r.2⟩) (Cert.ReferenceIdeal.Value.run m g)

/-- Where the user rows, the weights and the bias are finite, the kernel and the reference end with the same routing weights. -/
theorem algebraic_routed : Cert.algebraic_KernelIdeal_ReferenceIdeal_pre_finite (hKernelIdeal := Cert.KernelIdeal.Gen.facts)
    (hReferenceIdeal := Cert.ReferenceIdeal.Gen.facts) (hPre_finite := Cert.Pre_finite.facts) := fun m g m' g' hpre hargs => by
  refine ⟨fun c => KernelIdeal.routed (F := Ideal) (KernelIdeal.z m c), ?_, ?_⟩
  · exact (θ_run (Cert.KernelIdeal.defs (F := Ideal)) (Cert.KernelIdeal.threads (F := Ideal)) ⟨m, fun _ => 0, g⟩).mono
      (fun _ h c => h.1 c) (KernelIdeal.run_main (F := Ideal) m g)
  · refine (θ_run (Cert.ReferenceIdeal.defs (F := Ideal)) (onTc (τ := Cert.ReferenceIdeal.τ) (Cert.ReferenceIdeal.main (F := Ideal))) ⟨m', fun _ => 0, g'⟩).mono
      (fun r h c => ⟨(h c).1.trans ?_, (h c).2⟩) (Cert.ReferenceIdeal.Value.run m' g')
    obtain ⟨hu, hw, hb⟩ := Cert.Pre_finite.real_of _ _ _ _ (hpre c)
    obtain ⟨_, h1, h2, h3⟩ := hargs c
    refine (Reference.res_eq m' c).trans ?_
    rw [h1, h2, h3]
    exact (Scores.routed_eq _ _ _ hu hw hb).symm

/-- All that is claimed: the frames, the idealization, and the equality of the results. -/
theorem claim : Cert.Claim := ⟨Cert.Kernel.Gen.facts, Cert.KernelIdeal.Gen.facts, Cert.ReferenceIdeal.Gen.facts, Cert.Pre_finite.facts,
  frame_kernel, frame_ideal, fun m g _ => frame_ideal m g trivial, frame_reference, fun m g _ => frame_reference m g trivial, trivial,
  algebraic_routed⟩

end Cert.Proof

end
